-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attended_KernelIdeal [hPre_attended_KernelIdeal : Cert.Pre_attended_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_attended_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_attended_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_attended_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_attended_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attended_ReferenceIdeal [hPre_attended_ReferenceIdeal : Cert.Pre_attended_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attended_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_attended_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_attended_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_attended_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_attended_KernelIdeal [hKernelIdeal : Cert.KernelIdeal.Facts] [hPre_attended_KernelIdeal : Cert.Pre_attended_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attended_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_attended_ReferenceIdeal [hReferenceIdeal : Cert.ReferenceIdeal.Facts] [hPre_attended_ReferenceIdeal : Cert.Pre_attended_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attended_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_attended_KernelIdeal [hKernelIdeal : Cert.KernelIdeal.Facts] [hReferenceIdeal : Cert.ReferenceIdeal.Facts] [hPre_attended_KernelIdeal : Cert.Pre_attended_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attended_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![512, 16, 8, 128]⟩ ⟨4, ![1024, 16, 8, 128]⟩ (Layout.meshBlock [2, 2, 4] ![[0], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![512, 16, 8, 128]⟩ ⟨4, ![1024, 16, 8, 128]⟩ (Layout.meshBlock [2, 2, 4] ![[0], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_attended_KernelIdeal : Cert.Pre_attended_KernelIdeal.Facts) (hPre_attended_ReferenceIdeal : Cert.Pre_attended_ReferenceIdeal.Facts),
    quiescent_Kernel (hKernel := hKernel)
    ∧ quiescent_KernelIdeal (hKernelIdeal := hKernelIdeal)
    ∧ quiescent_KernelIdeal_pre_attended_KernelIdeal (hKernelIdeal := hKernelIdeal) (hPre_attended_KernelIdeal := hPre_attended_KernelIdeal)
    ∧ quiescent_ReferenceIdeal (hReferenceIdeal := hReferenceIdeal)
    ∧ quiescent_ReferenceIdeal_pre_attended_ReferenceIdeal (hReferenceIdeal := hReferenceIdeal) (hPre_attended_ReferenceIdeal := hPre_attended_ReferenceIdeal)
    ∧ preserves_Kernel_KernelIdeal
    ∧ algebraic_KernelIdeal_ReferenceIdeal_pre_attended_KernelIdeal (hKernelIdeal := hKernelIdeal) (hReferenceIdeal := hReferenceIdeal) (hPre_attended_KernelIdeal := hPre_attended_KernelIdeal)
-- ==== Pre_attended_KernelIdeal.lean ====
abbrev S8x1x8x128 : Shape := ⟨4, ![8, 1, 8, 128]⟩
abbrev S512x16x8x128 : Shape := ⟨4, ![512, 16, 8, 128]⟩
abbrev S8x512 : Shape := ⟨2, ![8, 512]⟩
abbrev S8 : Shape := ⟨1, ![8]⟩
abbrev S_ : Shape := ⟨0, ![]⟩
abbrev S8x1 : Shape := ⟨2, ![8, 1]⟩

class Facts : Prop where
  bcast_S_S8x1x8x128 : S_.BroadcastsInDim S8x1x8x128 (![] : Fin 0 → Fin S8x1x8x128.rank)
  bcast_S_S512x16x8x128 : S_.BroadcastsInDim S512x16x8x128 (![] : Fin 0 → Fin S512x16x8x128.rank)
  bcast_S_S8 : S_.BroadcastsInDim S8 (![] : Fin 0 → Fin S8.rank)
  shapeCasts_S8_S8x1 : S8.ShapeCasts S8x1
  bcast_S8x1_S8x512_0_1 : S8x1.BroadcastsInDim S8x512 (![0, 1] : Fin 2 → Fin S8x512.rank)
  bcast_S_S8x512 : S_.BroadcastsInDim S8x512 (![] : Fin 0 → Fin S8x512.rank)

variable [Facts]

def fn {F : FTy → Type} [FloatOps F] (main_arg0 : FVec F S8x1x8x128 .f32) (main_arg1 : FVec F S512x16x8x128 .f32) (main_arg2 : FVec F S512x16x8x128 .f32) (main_arg3 : IVec S8x512 32) (main_arg4 : IVec S8 32) : IVec S8x1x8x128 1 × IVec S512x16x8x128 1 × IVec S8 1 × IVec S8x512 1 :=
  let main_v0 : IVec S8x512 32 := iotaInDim S8x512 32 1
  let main_v1 : FVec F S8x1x8x128 .f32 := Host.absf main_arg0
  let main_cst : FVec F S_ .f32 := constant S_ .f32 0x7F800000#32
  let main_v2 : FVec F S8x1x8x128 .f32 := broadcastInDim S8x1x8x128 ![] bcast_S_S8x1x8x128 main_cst
  let main_v3 : IVec S8x1x8x128 1 := cmpf .olt main_v1 main_v2
  let main_v4 : FVec F S512x16x8x128 .f32 := Host.absf main_arg1
  let main_cst_0 : FVec F S_ .f32 := constant S_ .f32 0x7F800000#32
  let main_v5 : FVec F S512x16x8x128 .f32 := broadcastInDim S512x16x8x128 ![] bcast_S_S512x16x8x128 main_cst_0
  let main_v6 : IVec S512x16x8x128 1 := cmpf .olt main_v4 main_v5
  let main_c : IVec S_ 32 := constantI S_ 32 1#32
  let main_v7 : IVec S8 32 := broadcastInDim S8 ![] bcast_S_S8 main_c
  let main_v8 : IVec S8 1 := cmpi .sge main_arg4 main_v7
  let main_v9 : IVec S8x1 32 := shapeCast S8x1 main_arg4 shapeCasts_S8_S8x1
  let main_v10 : IVec S8x512 32 := broadcastInDim S8x512 ![0, 1] bcast_S8x1_S8x512_0_1 main_v9
  let main_v11 : IVec S8x512 1 := cmpi .sge main_v0 main_v10
  let main_c_1 : IVec S_ 32 := constantI S_ 32 0#32
  let main_v12 : IVec S8x512 32 := broadcastInDim S8x512 ![] bcast_S_S8x512 main_c_1
  let main_v13 : IVec S8x512 1 := cmpi .sge main_arg3 main_v12
  let main_c_2 : IVec S_ 32 := constantI S_ 32 1024#32
  let main_v14 : IVec S8x512 32 := broadcastInDim S8x512 ![] bcast_S_S8x512 main_c_2
  let main_v15 : IVec S8x512 1 := cmpi .slt main_arg3 main_v14
  let main_v16 : IVec S8x512 1 := andi main_v13 main_v15
  let main_v17 : IVec S8x512 1 := ori main_v11 main_v16
  (main_v3, main_v6, main_v8, main_v17)
-- ==== Pre_attended_ReferenceIdeal.lean ====
abbrev S8x1x8x128 : Shape := ⟨4, ![8, 1, 8, 128]⟩
abbrev S1024x16x8x128 : Shape := ⟨4, ![1024, 16, 8, 128]⟩
abbrev S8x512 : Shape := ⟨2, ![8, 512]⟩
abbrev S8 : Shape := ⟨1, ![8]⟩
abbrev S_ : Shape := ⟨0, ![]⟩
abbrev S8x1 : Shape := ⟨2, ![8, 1]⟩

class Facts : Prop where
  bcast_S_S8x1x8x128 : S_.BroadcastsInDim S8x1x8x128 (![] : Fin 0 → Fin S8x1x8x128.rank)
  bcast_S_S1024x16x8x128 : S_.BroadcastsInDim S1024x16x8x128 (![] : Fin 0 → Fin S1024x16x8x128.rank)
  bcast_S_S8 : S_.BroadcastsInDim S8 (![] : Fin 0 → Fin S8.rank)
  shapeCasts_S8_S8x1 : S8.ShapeCasts S8x1
  bcast_S8x1_S8x512_0_1 : S8x1.BroadcastsInDim S8x512 (![0, 1] : Fin 2 → Fin S8x512.rank)
  bcast_S_S8x512 : S_.BroadcastsInDim S8x512 (![] : Fin 0 → Fin S8x512.rank)

variable [Facts]

def fn {F : FTy → Type} [FloatOps F] (main_arg0 : FVec F S8x1x8x128 .f32) (main_arg1 : FVec F S1024x16x8x128 .f32) (main_arg2 : FVec F S1024x16x8x128 .f32) (main_arg3 : IVec S8x512 32) (main_arg4 : IVec S8 32) : IVec S8x1x8x128 1 × IVec S1024x16x8x128 1 × IVec S8 1 × IVec S8x512 1 :=
  let main_v0 : IVec S8x512 32 := iotaInDim S8x512 32 1
  let main_v1 : FVec F S8x1x8x128 .f32 := Host.absf main_arg0
  let main_cst : FVec F S_ .f32 := constant S_ .f32 0x7F800000#32
  let main_v2 : FVec F S8x1x8x128 .f32 := broadcastInDim S8x1x8x128 ![] bcast_S_S8x1x8x128 main_cst
  let main_v3 : IVec S8x1x8x128 1 := cmpf .olt main_v1 main_v2
  let main_v4 : FVec F S1024x16x8x128 .f32 := Host.absf main_arg1
  let main_cst_0 : FVec F S_ .f32 := constant S_ .f32 0x7F800000#32
  let main_v5 : FVec F S1024x16x8x128 .f32 := broadcastInDim S1024x16x8x128 ![] bcast_S_S1024x16x8x128 main_cst_0
  let main_v6 : IVec S1024x16x8x128 1 := cmpf .olt main_v4 main_v5
  let main_c : IVec S_ 32 := constantI S_ 32 1#32
  let main_v7 : IVec S8 32 := broadcastInDim S8 ![] bcast_S_S8 main_c
  let main_v8 : IVec S8 1 := cmpi .sge main_arg4 main_v7
  let main_v9 : IVec S8x1 32 := shapeCast S8x1 main_arg4 shapeCasts_S8_S8x1
  let main_v10 : IVec S8x512 32 := broadcastInDim S8x512 ![0, 1] bcast_S8x1_S8x512_0_1 main_v9
  let main_v11 : IVec S8x512 1 := cmpi .sge main_v0 main_v10
  let main_c_1 : IVec S_ 32 := constantI S_ 32 0#32
  let main_v12 : IVec S8x512 32 := broadcastInDim S8x512 ![] bcast_S_S8x512 main_c_1
  let main_v13 : IVec S8x512 1 := cmpi .sge main_arg3 main_v12
  let main_c_2 : IVec S_ 32 := constantI S_ 32 1024#32
  let main_v14 : IVec S8x512 32 := broadcastInDim S8x512 ![] bcast_S_S8x512 main_c_2
  let main_v15 : IVec S8x512 1 := cmpi .slt main_arg3 main_v14
  let main_v16 : IVec S8x512 1 := andi main_v13 main_v15
  let main_v17 : IVec S8x512 1 := ori main_v11 main_v16
  (main_v3, main_v6, main_v8, main_v17)
-- ==== Kernel.lean ====
abbrev S8x1x8x128 : Shape := ⟨4, ![8, 1, 8, 128]⟩
abbrev S512x16x8x128 : Shape := ⟨4, ![512, 16, 8, 128]⟩
abbrev S8x512 : Shape := ⟨2, ![8, 512]⟩
abbrev S8 : Shape := ⟨1, ![8]⟩
abbrev S2x64x16x8x128 : Shape := ⟨5, ![2, 64, 16, 8, 128]⟩
abbrev S8x8x64 : Shape := ⟨3, ![8, 8, 64]⟩
abbrev S8x8x128 : Shape := ⟨3, ![8, 8, 128]⟩
abbrev S2x8x8 : Shape := ⟨3, ![2, 8, 8]⟩
abbrev S2x2 : Shape := ⟨2, ![2, 2]⟩
abbrev S2 : Shape := ⟨1, ![2]⟩
abbrev S1x512x1 : Shape := ⟨3, ![1, 512, 1]⟩
abbrev S1 : Shape := ⟨1, ![1]⟩
abbrev S8x1x1 : Shape := ⟨3, ![8, 1, 1]⟩
abbrev S8x512x1 : Shape := ⟨3, ![8, 512, 1]⟩
abbrev S1x1x64 : Shape := ⟨3, ![1, 1, 64]⟩
abbrev S8x512x64 : Shape := ⟨3, ![8, 512, 64]⟩
abbrev S8x64 : Shape := ⟨2, ![8, 64]⟩
abbrev S1x8x64 : Shape := ⟨3, ![1, 8, 64]⟩
abbrev S1x1 : Shape := ⟨2, ![1, 1]⟩
abbrev S_ : Shape := ⟨0, ![]⟩
abbrev S1x64x16x8x128 : Shape := ⟨5, ![1, 64, 16, 8, 128]⟩
abbrev S64x16x8x128 : Shape := ⟨4, ![64, 16, 8, 128]⟩
abbrev S8x1 : Shape := ⟨2, ![8, 1]⟩
abbrev S8x128 : Shape := ⟨2, ![8, 128]⟩
abbrev S8x64x1 : Shape := ⟨3, ![8, 64, 1]⟩
abbrev S8x64x16 : Shape := ⟨3, ![8, 64, 16]⟩
abbrev S8x1024 : Shape := ⟨2, ![8, 1024]⟩
abbrev S8x1x1x128 : Shape := ⟨4, ![8, 1, 1, 128]⟩
abbrev S1x64x16x1x128 : Shape := ⟨5, ![1, 64, 16, 1, 128]⟩
abbrev S64x16x128 : Shape := ⟨3, ![64, 16, 128]⟩
abbrev S1024x128 : Shape := ⟨2, ![1024, 128]⟩
abbrev S1x8x128 : Shape := ⟨3, ![1, 8, 128]⟩
abbrev S1x8x1 : Shape := ⟨3, ![1, 8, 1]⟩

abbrev nBuf : Space → Nat
  | .hbm => 6
  | .vmem => 10
  | .smem => 1
  | _ => 0

abbrev bufTy : (tb : Table) → Fin (tcTables nBuf tb) → BufTy
  | .hbm, ⟨0, _⟩ => ⟨S8x1x8x128, .f32⟩
  | .hbm, ⟨1, _⟩ => ⟨S512x16x8x128, .f32⟩
  | .hbm, ⟨2, _⟩ => ⟨S512x16x8x128, .f32⟩
  | .hbm, ⟨3, _⟩ => ⟨S8x512, .i32⟩
  | .hbm, ⟨4, _⟩ => ⟨S8, .i32⟩
  | .hbm, ⟨5, _⟩ => ⟨S8x1x8x128, .f32⟩
  | .local _ .vmem, ⟨0, _⟩ => ⟨S8x1x8x128, .f32⟩
  | .local _ .vmem, ⟨1, _⟩ => ⟨S8x512, .i32⟩
  | .local _ .vmem, ⟨2, _⟩ => ⟨S8x1x8x128, .f32⟩
  | .local _ .vmem, ⟨3, _⟩ => ⟨S2x64x16x8x128, .f32⟩
  | .local _ .vmem, ⟨4, _⟩ => ⟨S2x64x16x8x128, .f32⟩
  | .local _ .vmem, ⟨5, _⟩ => ⟨S8x8x64, .f32⟩
  | .local _ .vmem, ⟨6, _⟩ => ⟨S8x8x128, .f32⟩
  | .local _ .vmem, ⟨7, _⟩ => ⟨S8x8x128, .f32⟩
  | .local _ .vmem, ⟨8, _⟩ => ⟨S2x8x8, .f32⟩
  | .local _ .vmem, ⟨9, _⟩ => ⟨S2x8x8, .f32⟩
  | .local _ .smem, ⟨0, _⟩ => ⟨S8, .i32⟩
  | _, _ => ⟨S8x1x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

@[reducible] def k0_t1_loop : Scf.Loop 32 :=
  let c0_i32_111 : BitVec 32 := 0#32
  let c4_i32_112 : BitVec 32 := 4#32
  let v207 : BitVec 32 := Scalar.addi c0_i32_111 c4_i32_112
  let c1_i32_113 : BitVec 32 := 1#32
  ⟨c0_i32_111, v207, c1_i32_113⟩
def k0_off1 (k0_t1 : Fin k0_t1_loop.trips) : Fin 4 → Nat :=
  let c0_i32_111 : BitVec 32 := 0#32
  let c1_i32_113 : BitVec 32 := 1#32
  let arg16 : BitVec 32 := Scf.iv c0_i32_111 c1_i32_113 k0_t1
  let c2_i32_327 : BitVec 32 := 2#32
  let v520 : BitVec 32 := Scalar.muli arg16 c2_i32_327
  let c64_i32_328 : BitVec 32 := 64#32
  let v521 : BitVec 32 := Scalar.muli v520 c64_i32_328
  let c0_i32_336 : BitVec 32 := 0#32
  let c0_i32_337 : BitVec 32 := 0#32
  let c0_i32_338 : BitVec 32 := 0#32
  ![v521.toNat, 0, 0, 0]
def k0_off2 (k0_t1 : Fin k0_t1_loop.trips) : Fin 3 → Nat :=
  let c0_i32_111 : BitVec 32 := 0#32
  let c1_i32_113 : BitVec 32 := 1#32
  let arg16 : BitVec 32 := Scf.iv c0_i32_111 c1_i32_113 k0_t1
  let c2_i32_327 : BitVec 32 := 2#32
  let v520 : BitVec 32 := Scalar.muli arg16 c2_i32_327
  let v533 : Index := Scalar.indexCast v520
  let c0_350 : Index := 0#32
  let c0_351 : Index := 0#32
  ![v533.toNat, 0, 0]
def k0_cond1 (k0_t1 : Fin k0_t1_loop.trips) : BitVec 1 :=
  let c0_i32_111 : BitVec 32 := 0#32
  let c1_i32_113 : BitVec 32 := 1#32
  let arg16 : BitVec 32 := Scf.iv c0_i32_111 c1_i32_113 k0_t1
  let c2_i32_327 : BitVec 32 := 2#32
  let v520 : BitVec 32 := Scalar.muli arg16 c2_i32_327
  let c2_i32_504 : BitVec 32 := 2#32
  let v764 : BitVec 32 := Scalar.addi v520 c2_i32_504
  let c8_i32_505 : BitVec 32 := 8#32
  let v765 : BitVec 1 := Scalar.cmpi .slt v764 c8_i32_505
  let v766 : BitVec 32 := Scalar.extui v765
  let c0_i32_506 : BitVec 32 := 0#32
  let v767 : BitVec 1 := Scalar.cmpi .ne v766 c0_i32_506
  v767

def k0_off3 (k0_t1 : Fin k0_t1_loop.trips) : Fin 4 → Nat :=
  let c0_i32_111 : BitVec 32 := 0#32
  let c1_i32_113 : BitVec 32 := 1#32
  let arg16 : BitVec 32 := Scf.iv c0_i32_111 c1_i32_113 k0_t1
  let c2_i32_327 : BitVec 32 := 2#32
  let v520 : BitVec 32 := Scalar.muli arg16 c2_i32_327
  let c2_i32_687 : BitVec 32 := 2#32
  let v1016 : BitVec 32 := Scalar.addi v520 c2_i32_687
  let c64_i32_688 : BitVec 32 := 64#32
  let v1017 : BitVec 32 := Scalar.muli v1016 c64_i32_688
  let c0_i32_696 : BitVec 32 := 0#32
  let c0_i32_697 : BitVec 32 := 0#32
  let c0_i32_698 : BitVec 32 := 0#32
  ![v1017.toNat, 0, 0, 0]
def k0_off4 (k0_t1 : Fin k0_t1_loop.trips) : Fin 4 → Nat :=
  let c0_i32_111 : BitVec 32 := 0#32
  let c1_i32_113 : BitVec 32 := 1#32
  let arg16 : BitVec 32 := Scf.iv c0_i32_111 c1_i32_113 k0_t1
  let c2_i32_327 : BitVec 32 := 2#32
  let v520 : BitVec 32 := Scalar.muli arg16 c2_i32_327
  let c1_i32_507 : BitVec 32 := 1#32
  let v768 : BitVec 32 := Scalar.addi v520 c1_i32_507
  let c64_i32_508 : BitVec 32 := 64#32
  let v769 : BitVec 32 := Scalar.muli v768 c64_i32_508
  let c0_i32_516 : BitVec 32 := 0#32
  let c0_i32_517 : BitVec 32 := 0#32
  let c0_i32_518 : BitVec 32 := 0#32
  ![v769.toNat, 0, 0, 0]
def k0_off5 (k0_t1 : Fin k0_t1_loop.trips) : Fin 3 → Nat :=
  let c0_i32_111 : BitVec 32 := 0#32
  let c1_i32_113 : BitVec 32 := 1#32
  let arg16 : BitVec 32 := Scf.iv c0_i32_111 c1_i32_113 k0_t1
  let c2_i32_327 : BitVec 32 := 2#32
  let v520 : BitVec 32 := Scalar.muli arg16 c2_i32_327
  let c1_i32_507 : BitVec 32 := 1#32
  let v768 : BitVec 32 := Scalar.addi v520 c1_i32_507
  let v781 : Index := Scalar.indexCast v768
  let c0_530 : Index := 0#32
  let c0_531 : Index := 0#32
  ![v781.toNat, 0, 0]
def k0_cond2 (k0_t1 : Fin k0_t1_loop.trips) : BitVec 1 :=
  let c0_i32_111 : BitVec 32 := 0#32
  let c1_i32_113 : BitVec 32 := 1#32
  let arg16 : BitVec 32 := Scf.iv c0_i32_111 c1_i32_113 k0_t1
  let c2_i32_327 : BitVec 32 := 2#32
  let v520 : BitVec 32 := Scalar.muli arg16 c2_i32_327
  let c1_i32_507 : BitVec 32 := 1#32
  let v768 : BitVec 32 := Scalar.addi v520 c1_i32_507
  let c2_i32_684 : BitVec 32 := 2#32
  let v1012 : BitVec 32 := Scalar.addi v768 c2_i32_684
  let c8_i32_685 : BitVec 32 := 8#32
  let v1013 : BitVec 1 := Scalar.cmpi .slt v1012 c8_i32_685
  let v1014 : BitVec 32 := Scalar.extui v1013
  let c0_i32_686 : BitVec 32 := 0#32
  let v1015 : BitVec 1 := Scalar.cmpi .ne v1014 c0_i32_686
  v1015

def k0_off6 (k0_t1 : Fin k0_t1_loop.trips) : Fin 4 → Nat :=
  let c0_i32_111 : BitVec 32 := 0#32
  let c1_i32_113 : BitVec 32 := 1#32
  let arg16 : BitVec 32 := Scf.iv c0_i32_111 c1_i32_113 k0_t1
  let c2_i32_327 : BitVec 32 := 2#32
  let v520 : BitVec 32 := Scalar.muli arg16 c2_i32_327
  let c1_i32_507 : BitVec 32 := 1#32
  let v768 : BitVec 32 := Scalar.addi v520 c1_i32_507
  let c2_i32_687 : BitVec 32 := 2#32
  let v1016 : BitVec 32 := Scalar.addi v768 c2_i32_687
  let c64_i32_688 : BitVec 32 := 64#32
  let v1017 : BitVec 32 := Scalar.muli v1016 c64_i32_688
  let c0_i32_696 : BitVec 32 := 0#32
  let c0_i32_697 : BitVec 32 := 0#32
  let c0_i32_698 : BitVec 32 := 0#32
  ![v1017.toNat, 0, 0, 0]
def k0_dev1 (d0 : Dev nD) : Nat :=
  let c0_i32_189 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_188 : BitVec 32 := 8#32
  let v282 : BitVec 32 := Scalar.muli v9 c8_i32_188
  let v283 : BitVec 32 := Scalar.addi c0_i32_189 v282
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_190 : BitVec 32 := 4#32
  let v284 : BitVec 32 := Scalar.muli v5 c4_i32_190
  let v285 : BitVec 32 := Scalar.addi v283 v284
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_191 : BitVec 32 := 1#32
  let v286 : BitVec 32 := Scalar.muli v8 c1_i32_191
  let v287 : BitVec 32 := Scalar.addi v285 v286
  v287.toNat
def k0_dev2 (d0 : Dev nD) : Nat :=
  let c0_i32_196 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_195 : BitVec 32 := 8#32
  let v288 : BitVec 32 := Scalar.muli v9 c8_i32_195
  let v289 : BitVec 32 := Scalar.addi c0_i32_196 v288
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_197 : BitVec 32 := 4#32
  let v290 : BitVec 32 := Scalar.muli v5 c4_i32_197
  let v291 : BitVec 32 := Scalar.addi v289 v290
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_198 : BitVec 32 := 1#32
  let v292 : BitVec 32 := Scalar.muli v8 c1_i32_198
  let v293 : BitVec 32 := Scalar.addi v291 v292
  v293.toNat
def k0_dev3 (d0 : Dev nD) : Nat :=
  let c0_i32_202 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_201 : BitVec 32 := 8#32
  let v298 : BitVec 32 := Scalar.muli v9 c8_i32_201
  let v299 : BitVec 32 := Scalar.addi c0_i32_202 v298
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_203 : BitVec 32 := 4#32
  let v300 : BitVec 32 := Scalar.muli v5 c4_i32_203
  let v301 : BitVec 32 := Scalar.addi v299 v300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_204 : BitVec 32 := 1#32
  let v302 : BitVec 32 := Scalar.muli v8 c1_i32_204
  let v303 : BitVec 32 := Scalar.addi v301 v302
  v303.toNat
abbrev stage0_0 : Fin 1 → Memref sig .tc .vmem S8x1x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S8 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8x1x8x128 : Shape := ⟨4, ![8, 1, 8, 128]⟩
abbrev S1024x16x8x128 : Shape := ⟨4, ![1024, 16, 8, 128]⟩
abbrev S8x512 : Shape := ⟨2, ![8, 512]⟩
abbrev S8 : Shape := ⟨1, ![8]⟩
abbrev S_ : Shape := ⟨0, ![]⟩
abbrev S8x512x1 : Shape := ⟨3, ![8, 512, 1]⟩
abbrev S8x512x16x8x128 : Shape := ⟨5, ![8, 512, 16, 8, 128]⟩
abbrev S8x8192x8x128 : Shape := ⟨4, ![8, 8192, 8, 128]⟩
abbrev S8x8x1x8192 : Shape := ⟨4, ![8, 8, 1, 8192]⟩
abbrev S1x512x16 : Shape := ⟨3, ![1, 512, 16]⟩
abbrev S1x1x1x8192 : Shape := ⟨4, ![1, 1, 1, 8192]⟩
abbrev S8x1x1x1 : Shape := ⟨4, ![8, 1, 1, 1]⟩
abbrev S8x1x1x8192 : Shape := ⟨4, ![8, 1, 1, 8192]⟩
abbrev S8x8x1 : Shape := ⟨3, ![8, 8, 1]⟩
abbrev S8x8x1x1 : Shape := ⟨4, ![8, 8, 1, 1]⟩
abbrev S8x8x128x1 : Shape := ⟨4, ![8, 8, 128, 1]⟩

abbrev nBuf : Space → Nat
  | .hbm => 53
  | .vmem => 0
  | .smem => 0
  | _ => 0

abbrev bufTy : (tb : Table) → Fin (tcTables nBuf tb) → BufTy
  | .hbm, ⟨0, _⟩ => ⟨S8x1x8x128, .f32⟩
  | .hbm, ⟨1, _⟩ => ⟨S1024x16x8x128, .f32⟩
  | .hbm, ⟨2, _⟩ => ⟨S1024x16x8x128, .f32⟩
  | .hbm, ⟨3, _⟩ => ⟨S8x512, .i32⟩
  | .hbm, ⟨4, _⟩ => ⟨S8, .i32⟩
  | .hbm, ⟨5, _⟩ => ⟨S_, .i32⟩
  | .hbm, ⟨6, _⟩ => ⟨S8x512, .i32⟩
  | .hbm, ⟨7, _⟩ => ⟨S8x512, .i1⟩
  | .hbm, ⟨8, _⟩ => ⟨S_, .i32⟩
  | .hbm, ⟨9, _⟩ => ⟨S8x512, .i32⟩
  | .hbm, ⟨10, _⟩ => ⟨S8x512, .i32⟩
  | .hbm, ⟨11, _⟩ => ⟨S8x512, .i32⟩
  | .hbm, ⟨12, _⟩ => ⟨S8x512x1, .i32⟩
  | .hbm, ⟨13, _⟩ => ⟨S8x512x16x8x128, .f32⟩
  | .hbm, ⟨14, _⟩ => ⟨S8x8192x8x128, .f32⟩
  | .hbm, ⟨15, _⟩ => ⟨S_, .i32⟩
  | .hbm, ⟨16, _⟩ => ⟨S8x512, .i32⟩
  | .hbm, ⟨17, _⟩ => ⟨S8x512, .i1⟩
  | .hbm, ⟨18, _⟩ => ⟨S_, .i32⟩
  | .hbm, ⟨19, _⟩ => ⟨S8x512, .i32⟩
  | .hbm, ⟨20, _⟩ => ⟨S8x512, .i32⟩
  | .hbm, ⟨21, _⟩ => ⟨S8x512, .i32⟩
  | .hbm, ⟨22, _⟩ => ⟨S8x512x1, .i32⟩
  | .hbm, ⟨23, _⟩ => ⟨S8x512x16x8x128, .f32⟩
  | .hbm, ⟨24, _⟩ => ⟨S8x8192x8x128, .f32⟩
  | .hbm, ⟨25, _⟩ => ⟨S8x8x1x8192, .f32⟩
  | .hbm, ⟨26, _⟩ => ⟨S_, .f32⟩
  | .hbm, ⟨27, _⟩ => ⟨S8x8x1x8192, .f32⟩
  | .hbm, ⟨28, _⟩ => ⟨S8x8x1x8192, .f32⟩
  | .hbm, ⟨29, _⟩ => ⟨S1x512x16, .i32⟩
  | .hbm, ⟨30, _⟩ => ⟨S1x1x1x8192, .i32⟩
  | .hbm, ⟨31, _⟩ => ⟨S8x1x1x1, .i32⟩
  | .hbm, ⟨32, _⟩ => ⟨S8x1x1x8192, .i32⟩
  | .hbm, ⟨33, _⟩ => ⟨S8x1x1x8192, .i32⟩
  | .hbm, ⟨34, _⟩ => ⟨S8x1x1x8192, .i1⟩
  | .hbm, ⟨35, _⟩ => ⟨S_, .f32⟩
  | .hbm, ⟨36, _⟩ => ⟨S_, .f32⟩
  | .hbm, ⟨37, _⟩ => ⟨S8x8x1x8192, .i1⟩
  | .hbm, ⟨38, _⟩ => ⟨S8x8x1x8192, .f32⟩
  | .hbm, ⟨39, _⟩ => ⟨S8x8x1x8192, .f32⟩
  | .hbm, ⟨40, _⟩ => ⟨S_, .f32⟩
  | .hbm, ⟨41, _⟩ => ⟨S8x8x1, .f32⟩
  | .hbm, ⟨42, _⟩ => ⟨S8x8x1x1, .f32⟩
  | .hbm, ⟨43, _⟩ => ⟨S8x8x1x8192, .f32⟩
  | .hbm, ⟨44, _⟩ => ⟨S8x8x1x8192, .f32⟩
  | .hbm, ⟨45, _⟩ => ⟨S8x8x1x8192, .f32⟩
  | .hbm, ⟨46, _⟩ => ⟨S_, .f32⟩
  | .hbm, ⟨47, _⟩ => ⟨S8x8x1, .f32⟩
  | .hbm, ⟨48, _⟩ => ⟨S8x8x1x1, .f32⟩
  | .hbm, ⟨49, _⟩ => ⟨S8x8x1x8192, .f32⟩
  | .hbm, ⟨50, _⟩ => ⟨S8x8x1x8192, .f32⟩
  | .hbm, ⟨51, _⟩ => ⟨S8x8x128x1, .f32⟩
  | .hbm, ⟨52, _⟩ => ⟨S8x1x8x128, .f32⟩
  | _, _ => ⟨S8x1x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== Proof.Protocol.lean ====
/-
  THE PROTOCOL between a device and its mate across the axis `x` of the mesh: who signals whom, which transfer lands
  where, what each signal and each landing hands over, what a device owes at the start and in which order it may wait.

  Device `c = (x, y, z)` works with one mate only, `mate c = (1 - x, y, z)`. Five cells per device: the barrier cell
  (the mate's one signal: it hands over the mate's two landing buffers), two send cells (the own two source buffers come
  back), two receive cells (the own two landing buffers, holding the mate's partial result). Everything is one round.

  What the partial results ARE is a parameter here (`AO`, `AS`: the accumulators, and the maxima with the sums).
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.Launch
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Paged

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state: the staging's copy, the protocol's copy, and the counters the own transfers ride on -/

abbrev UU : Type := UR sig nD τ × (UR sig nD τ × Counters)
local notation "𝕄" => MT nD τ sig Unit (Elt F) ℕ UU ℕ
abbrev EP : Emb (UR sig nD τ) (MT nD τ sig Unit (Elt F) ℕ UU ℕ) := embL
abbrev ER : Emb (UR sig nD τ) (MT nD τ sig Unit (Elt F) ℕ UU ℕ) := (Emb.inl).trans embR
abbrev 𝒱₀ : Variants := Variants.none

/-! ## The mate -/

set_option backward.proofsInPublic true in
/-- The device with the other `x` and the same `y`, `z`. -/
def mate (c : Dev nD) : Dev nD := ⟨(c.val + 8) % 16, Nat.mod_lt _ (by decide)⟩
theorem mate_mate (c : Dev nD) : mate (mate c) = c := by revert c; decide
theorem dev1_eq (c : Dev nD) : (⟨k0_dev1 c, k0_dev1_lt c⟩ : Dev nD) = mate c := by revert c; decide +kernel
theorem dev2_eq (c : Dev nD) : (⟨k0_dev2 c, k0_dev2_lt c⟩ : Dev nD) = mate c := by revert c; decide +kernel
theorem dev3_eq (c : Dev nD) : (⟨k0_dev3 c, k0_dev3_lt c⟩ : Dev nD) = mate c := by revert c; decide +kernel
/-- The exchange as a permutation of the devices. -/
def mates : Dev nD ≃ Dev nD := ⟨mate, mate, mate_mate, mate_mate⟩

/-! ## Buffers and cells -/

abbrev oSend : Memref sig .tc .vmem S8x8x128 .f32 := Memref.whole cc0_scratch3
abbrev oRecv : Memref sig .tc .vmem S8x8x128 .f32 := Memref.whole cc0_scratch4
abbrev stSend : Memref sig .tc .vmem S2x8x8 .f32 := Memref.whole cc0_scratch5
abbrev stRecv : Memref sig .tc .vmem S2x8x8 .f32 := Memref.whole cc0_scratch6

abbrev barS : Sem sig := (SemArray.scalar (sig.barrier 0 rfl) : Sems sig S_).sem
abbrev sndO : DmaSems sig S_ := (cc0_scratch8.slice (Rect.unit (s := S2) ![0] S1.size inb_S2_S1_0)).squeeze S_ squeezes_S1_S_
abbrev sndT : DmaSems sig S_ := (cc0_scratch8.slice (Rect.unit (s := S2) ![1] S1.size inb_S2_S1_1)).squeeze S_ squeezes_S1_S_
abbrev rcvO : DmaSems sig S_ := (cc0_scratch9.slice (Rect.unit (s := S2) ![0] S1.size inb_S2_S1_0)).squeeze S_ squeezes_S1_S_
abbrev rcvT : DmaSems sig S_ := (cc0_scratch9.slice (Rect.unit (s := S2) ![1] S1.size inb_S2_S1_1)).squeeze S_ squeezes_S1_S_

/-- The protocol's five semaphores: barrier, the two send, the two receive. -/
abbrev csem : Fin 5 → SemLoc sig :=
  fun | 0 => .reg barS | 1 => .dma sndO.sem | 2 => .dma sndT.sem | 3 => .dma rcvO.sem | 4 => .dma rcvT.sem
abbrev kcell (ck : Dev nD × Fin 5) : GSem nD τ sig := ((ck.1 : Thread nD τ), csem ck.2)

theorem csem_injective : Function.Injective csem := by decide

abbrev barCell (c : Dev nD) : GSem nD τ sig := kcell (c, 0)

/-- The units one transfer moves: of the accumulators, of the maxima and sums. -/
abbrev NO : ℕ := (oRecv : Memref sig .tc .vmem S8x8x128 .f32).view.dmaCredit
abbrev NT : ℕ := (stRecv : Memref sig .tc .vmem S2x8x8 .f32).view.dmaCredit
theorem NO_pos : 0 < NO := View.dmaCredit_pos _ (by decide)
theorem NT_pos : 0 < NT := View.dmaCredit_pos _ (by decide)
/-- The units of each cell's one duty. -/
abbrev units (s : SemLoc sig) : ℕ := if s = csem 0 then 1 else if s = csem 2 ∨ s = csem 4 then NT else NO

/-! ## What the payloads are -/

abbrev ConO (F : FTy → Type) : Type := (cc0_scratch3 : Ref sig .tc).ty.Contents (Elt F)
abbrev ConT (F : FTy → Type) : Type := (cc0_scratch5 : Ref sig .tc).ty.Contents (Elt F)

abbrev wholePts (c : Dev nD) (b : Ref sig .tc) (f : Buf (Elt F) ((c : Thread nD τ).loc b)) : sProp 𝕄 :=
  (Memref.whole b : Memref sig .tc _ _ _).view.loc (c : Thread nD τ) ↦[(Memref.whole b : Memref sig .tc _ _ _).view.set]{fullShare} f

omit [FloatOps F] in
theorem wholePts_eq (c : Dev nD) (b : Ref sig .tc) (f : Buf (Elt F) ((c : Thread nD τ).loc b)) :
    wholePts c b f = (((c : Thread nD τ).loc b) ↦{fullShare} f : sProp 𝕄) := by
  unfold wholePts; simp only [Memref.view_whole, View.set_whole]

variable (AO : Dev nD → ConO F) (AT : Dev nD → ConT F)

/-- What the mate's signal hands `c`: the mate's two landing buffers, and that the mate's receive cells are at round 0. -/
def barPay (c : Dev nD) : sProp 𝕄 :=
  iprop((∃ f, wholePts (mate c) cc0_scratch4 f) ∗ (∃ f, wholePts (mate c) cc0_scratch6 f)
    ∗ reached ER (kcell (mate c, 3)) 0 ∗ reached ER (kcell (mate c, 4)) 0)
/-- What each cell's one duty hands its owner. -/
def pay (c : Dev nD) (s : SemLoc sig) : sProp 𝕄 :=
  if s = csem 0 then barPay c
  else if s = csem 1 then wholePts c cc0_scratch3 (AO c)
  else if s = csem 2 then wholePts c cc0_scratch5 (AT c)
  else if s = csem 3 then wholePts c cc0_scratch4 (AO (mate c))
  else if s = csem 4 then wholePts c cc0_scratch6 (AT (mate c))
  else iprop(emp)

/-- One round for every cell: one duty. -/
def rd : Rounds.Schedule (GSem nD τ sig) Unit 𝕄 where
  duties g r := if r = 0 ∧ g.1.2 = .tc ∧ (∃ k, g.2 = csem k) then {()} else ∅
  unitless _ := False
  amount g _ _ := units g.2
  payload g _ _ := pay AO AT g.1.1 g.2
  amount_pos g _ _ _ := by
    unfold units; split
    · exact Nat.one_pos
    · split
      · exact NT_pos
      · exact NO_pos

instance rd_payload_storable (g : GSem nD τ sig) (r : ℕ) (d : Unit) :
    BI.Storable (upEmb : UEmb _ 𝕄) ((rd AO AT).payload g r d) := by
  show BI.Storable upEmb (pay AO AT g.1.1 g.2)
  unfold pay barPay wholePts
  (repeat' split) <;> infer_instance

section Tables
variable (c : Dev nD)

omit [FloatOps F] in
theorem duties_cell (k : Fin 5) : (rd AO AT).duties (kcell (c, k)) 0 = {()} := by
  dsimp only [rd]; exact if_pos ⟨rfl, rfl, k, rfl⟩
omit [FloatOps F] in
theorem duties_later (g : GSem nD τ sig) : ∀ r, 1 ≤ r → (rd AO AT).duties g r = ∅ :=
  fun r hr => by dsimp only [rd]; exact if_neg fun h => by omega
omit [FloatOps F] in
theorem amount_cell (k : Fin 5) (u : Unit) : (rd AO AT).amount (kcell (c, k)) 0 u = units (csem k) := rfl
omit [FloatOps F] in
theorem expect_cell (k : Fin 5) : (rd AO AT).expect (kcell (c, k)) 0 = units (csem k) := by
  unfold Schedule.expect Schedule.amountOf; rw [duties_cell, Finset.sum_singleton, amount_cell]
omit [FloatOps F] in
theorem rest_cell (k : Fin 5) : bigSep ((rd AO AT).duties (kcell (c, k)) 0 \ ∅) (fun u => (rd AO AT).payload (kcell (c, k)) 0 u) = pay AO AT c (csem k) := by
  rw [Finset.sdiff_empty, duties_cell, bigSep_singleton]; rfl

theorem units0 : units (csem 0) = 1 := if_pos rfl
theorem units1 : units (csem 1) = NO := (if_neg (by decide)).trans (if_neg (by decide))
theorem units2 : units (csem 2) = NT := (if_neg (by decide)).trans (if_pos (by decide))
theorem units3 : units (csem 3) = NO := (if_neg (by decide)).trans (if_neg (by decide))
theorem units4 : units (csem 4) = NT := (if_neg (by decide)).trans (if_pos (by decide))

omit [FloatOps F] in
theorem pay0 : pay AO AT c (csem 0) = barPay c := if_pos rfl
omit [FloatOps F] in
theorem pay1 : pay AO AT c (csem 1) = wholePts c cc0_scratch3 (AO c) := (if_neg (by decide)).trans (if_pos rfl)
omit [FloatOps F] in
theorem pay2 : pay AO AT c (csem 2) = wholePts c cc0_scratch5 (AT c) :=
  (if_neg (by decide)).trans ((if_neg (by decide)).trans (if_pos rfl))
omit [FloatOps F] in
theorem pay3 : pay AO AT c (csem 3) = wholePts c cc0_scratch4 (AO (mate c)) :=
  (if_neg (by decide)).trans ((if_neg (by decide)).trans ((if_neg (by decide)).trans (if_pos rfl)))
omit [FloatOps F] in
theorem pay4 : pay AO AT c (csem 4) = wholePts c cc0_scratch6 (AT (mate c)) :=
  (if_neg (by decide)).trans ((if_neg (by decide)).trans ((if_neg (by decide)).trans ((if_neg (by decide)).trans (if_pos rfl))))

end Tables

/-! ## What a device owes at the start, and the order of the waits -/

/-- After the signal: the two landings at the mate. -/
def O₂ (c : Dev nD) : CellTallies nD τ sig Unit := tallyAt (kcell (mate c, 4)) () NT
def O₁ (c : Dev nD) : CellTallies nD τ sig Unit := O₂ c + tallyAt (kcell (mate c, 3)) () NO
/-- At the start: those and one unit on the mate's barrier. -/
def O₀ (c : Dev nD) : CellTallies nD τ sig Unit := O₁ c + tallyAt (kcell (mate c, 0)) () 1

def L (g : GSem nD τ sig) : Finset Unit := if g.1.2 = .tc then {()} else ∅
/-- Levels: every local transfer below the barrier, the barrier below the receive cells. -/
def lv (g : GSem nD τ sig) (_ : Unit) : ℕ := if g.2 = csem 0 then 1 else if g.2 = csem 3 ∨ g.2 = csem 4 then 2 else 0
theorem L_of_ne (g : GSem nD τ sig) (h : g.1.2 ≠ .tc) : L g = ∅ := if_neg h
theorem L_tc (c : Dev nD) (sm : SemLoc sig) : L ((c : Thread nD τ), sm) = {()} := if_pos rfl

theorem O₁_pos {c : Dev nD} {g : GSem nD τ sig} {u : Unit} (h : 0 < O₁ c g u) : g = kcell (mate c, 4) ∨ g = kcell (mate c, 3) := by
  unfold O₁ O₂ at h
  rw [Pi.add_apply, Finsupp.add_apply, tallyAt_apply, tallyAt_apply] at h
  by_contra hn; rw [not_or] at hn
  rw [if_neg (fun h' => hn.1 h'.1), if_neg (fun h' => hn.2 h'.1)] at h
  exact Nat.lt_irrefl 0 h
theorem O₀_pos {c : Dev nD} {g : GSem nD τ sig} {u : Unit} (h : 0 < O₀ c g u) :
    g = kcell (mate c, 4) ∨ g = kcell (mate c, 3) ∨ g = kcell (mate c, 0) := by
  by_cases h1 : 0 < O₁ c g u
  · rcases O₁_pos h1 with e | e
    · exact .inl e
    · exact .inr (.inl e)
  · unfold O₀ at h
    rw [Pi.add_apply, Finsupp.add_apply, tallyAt_apply] at h
    by_contra hn
    rw [not_or, not_or] at hn
    rw [if_neg (fun h' => hn.2.2 h'.1)] at h
    exact h1 (by omega)

theorem lv_bar (c : Dev nD) (u : Unit) : lv (kcell (c, 0)) u = 1 := if_pos rfl
theorem lv_rcvO (c : Dev nD) (u : Unit) : lv (kcell (c, 3)) u = 2 :=
  (if_neg (show csem 3 ≠ csem 0 by decide)).trans (if_pos (show csem 3 = csem 3 ∨ csem 3 = csem 4 from .inl rfl))
theorem lv_rcvT (c : Dev nD) (u : Unit) : lv (kcell (c, 4)) u = 2 :=
  (if_neg (show csem 4 ≠ csem 0 by decide)).trans (if_pos (show csem 4 = csem 3 ∨ csem 4 = csem 4 from .inr rfl))

omit [FloatOps F] in
/-- A wait on any cell of the device's own that is neither its barrier nor a receive cell is allowed at the start's debt. -/
theorem mayWait_low (c : Dev nD) (s : SemLoc sig) (h0 : s ≠ csem 0) (h3 : s ≠ csem 3) (h4 : s ≠ csem 4)
    (O : CellTallies nD τ sig Unit) (hO : O = O₀ c ∨ O = 0) :
    (levAts L lv : sProp 𝕄) ⊢ MayWait (c : Thread nD τ) s () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by
        rw [Finset.mem_singleton.mp hp]; dsimp only [lv]
        rw [if_neg h0, if_neg (fun h => h.elim h3 h4)])
      (fun g u hg => by
        rcases O₀_pos hg with rfl | rfl | rfl
        · rw [lv_rcvT]; decide
        · rw [lv_rcvO]; decide
        · rw [lv_bar]; decide)
  · rw [MayWait_zero]; iintro -; iempintro

omit [FloatOps F] in
/-- The wait on the own barrier, owing the two landings. -/
theorem mayWait_bar (c : Dev nD) : (levAts L lv : sProp 𝕄) ⊢ MayWait (c : Thread nD τ) (csem 0) () (O₁ c) :=
  MayOwe.of_cut (L := L) (lev := lv) 1 (fun p hp => by rw [Finset.mem_singleton.mp hp, L_tc]; exact Finset.mem_singleton_self _)
    (fun g u hg => by rcases O₁_pos hg with rfl | rfl <;> exact Finset.mem_singleton_self _)
    (fun p hp => by rw [Finset.mem_singleton.mp hp]; exact (lv_bar c ()).le)
    (fun g u hg => by
      rcases O₁_pos hg with rfl | rfl
      · rw [lv_rcvT]; decide
      · rw [lv_rcvO]; decide)

end Cert.Paged

end
-- ==== Proof.Copies.lean ====
/-
  THE LOCAL COPIES of the kernel: page chunks of `K` and `V` fetched into the two slots of each page buffer.

  One name for each chunk, slot and semaphore, the equations that bring the kernel's own spellings to these names (at a
  symbolic trip of its loop), and the pieces of memory: a chunk at home, a slot, a transfer in flight. A slot holding a
  chunk is always stated at ONE whole-buffer function (`slotCont`), whatever lay in the buffer before.
-/
module

public import proofs.«01_k».proof.Proof.Protocol

@[expose] public section

noncomputable section

namespace Cert.Paged

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## Names -/

abbrev kH : Memref sig .tc .hbm S512x16x8x128 .f32 := Memref.whole main_arg1
abbrev vH : Memref sig .tc .hbm S512x16x8x128 .f32 := Memref.whole main_arg2
abbrev kB : Memref sig .tc .vmem S2x64x16x8x128 .f32 := Memref.whole cc0_scratch0
abbrev vB : Memref sig .tc .vmem S2x64x16x8x128 .f32 := Memref.whole cc0_scratch1

abbrev chunkOff (b : Fin 8) : Fin 4 → Nat := ![64 * b.val, 0, 0, 0]
theorem chunkOff_inb (b : Fin 8) : ∀ a, chunkOff b a + S64x16x8x128.size a ≤ S512x16x8x128.size a := by
  revert b; decide
abbrev slotOff (s : Fin 2) : Fin 5 → Nat := ![s.val, 0, 0, 0, 0]
theorem slotOff_inb (s : Fin 2) : ∀ a, slotOff s a + S1x64x16x8x128.size a ≤ S2x64x16x8x128.size a := by
  revert s; decide
abbrev cpOff (s t : Fin 2) : Fin 2 → Nat := ![s.val, t.val]
theorem cpOff_inb (s t : Fin 2) : ∀ a, cpOff s t a + S1x1.size a ≤ S2x2.size a := by
  revert s t; decide

/-- Chunk `b` (64 pages) of an array of pages. -/
def chunkOf (M : Memref sig .tc .hbm S512x16x8x128 .f32) (b : Fin 8) : Memref sig .tc .hbm S64x16x8x128 .f32 :=
  M.slice (Rect.unit (s := S512x16x8x128) (chunkOff b) S64x16x8x128.size (chunkOff_inb b)) (fun _ => rfl)
/-- Slot `s` of a page buffer. -/
def slotOf (M : Memref sig .tc .vmem S2x64x16x8x128 .f32) (s : Fin 2) : Memref sig .tc .vmem S64x16x8x128 .f32 :=
  (M.slice (Rect.unit (s := S2x64x16x8x128) (slotOff s) S1x64x16x8x128.size (slotOff_inb s)) (fun _ => rfl)).squeeze S64x16x8x128 squeezes_S1x64x16x8x128_S64x16x8x128
/-- The semaphore of slot `s`, `t = 0` for `K`, `t = 1` for `V`. -/
def cpSem (s t : Fin 2) : DmaSems sig S_ :=
  (cc0_scratch7.slice (Rect.unit (s := S2x2) (cpOff s t) S1x1.size (cpOff_inb s t))).squeeze S_ squeezes_S1x1_S_

instance (s : Fin 2) : ClosedOff (slotOff s) := ⟨slotOff s, rfl⟩
instance (b : Fin 8) : ClosedOff (chunkOff b) := ⟨chunkOff b, rfl⟩

/-- The even and the odd chunk of trip `k`. -/
def ev (k : ℕ) : Fin 8 := Fin.ofNat 8 (2 * k)
def od (k : ℕ) : Fin 8 := Fin.ofNat 8 (2 * k + 1)

theorem trips_eq : k0_t1_loop.trips = 4 := by decide
theorem off1_ev : ∀ k : Fin k0_t1_loop.trips, k0_off1 k = chunkOff (ev k.val) := by decide +kernel
theorem off4_od : ∀ k : Fin k0_t1_loop.trips, k0_off4 k = chunkOff (od k.val) := by decide +kernel
theorem off3_ev : ∀ k : Fin k0_t1_loop.trips, k.val < 3 → k0_off3 k = chunkOff (ev (k.val + 1)) := by decide +kernel
theorem off6_od : ∀ k : Fin k0_t1_loop.trips, k.val < 3 → k0_off6 k = chunkOff (od (k.val + 1)) := by decide +kernel
theorem cond1_of : ∀ k : Fin k0_t1_loop.trips, k.val < 3 → k0_cond1 k = 1#1 := by decide +kernel
theorem cond2_of : ∀ k : Fin k0_t1_loop.trips, k.val < 3 → k0_cond2 k = 1#1 := by decide +kernel
theorem cond1_last : ∀ k : Fin k0_t1_loop.trips, ¬ k.val < 3 → ¬ k0_cond1 k = 1#1 := by decide +kernel
theorem cond2_last : ∀ k : Fin k0_t1_loop.trips, ¬ k.val < 3 → ¬ k0_cond2 k = 1#1 := by decide +kernel

section Canon

theorem chunk_congr (M : Memref sig .tc .hbm S512x16x8x128 .f32) {off : Fin 4 → Nat} {b : Fin 8} (e : off = chunkOff b) (hh hs) :
    M.slice (Rect.unit (s := S512x16x8x128) off S64x16x8x128.size hh) hs = chunkOf M b :=
  Memref.slice_unit_congr _ e _ _ _ (fun _ => rfl)
theorem slot_congr (M : Memref sig .tc .vmem S2x64x16x8x128 .f32) {off : Fin 5 → Nat} {s : Fin 2} (e : off = slotOff s) (hh hs) :
    (M.slice (Rect.unit (s := S2x64x16x8x128) off S1x64x16x8x128.size hh) hs).squeeze S64x16x8x128 squeezes_S1x64x16x8x128_S64x16x8x128 = slotOf M s :=
  congrArg (fun A : Memref sig .tc .vmem S1x64x16x8x128 .f32 => A.squeeze S64x16x8x128 squeezes_S1x64x16x8x128_S64x16x8x128)
    (Memref.slice_unit_congr _ e _ _ _ _)
theorem cp_congr {off : Fin 2 → Nat} {s t : Fin 2} (e : off = cpOff s t) (hh) :
    (cc0_scratch7.slice (Rect.unit (s := S2x2) off S1x1.size hh)).squeeze S_ squeezes_S1x1_S_ = cpSem s t :=
  congrArg (fun A : DmaSems sig S1x1 => A.squeeze S_ squeezes_S1x1_S_) (SemArray.slice_unit_congr _ e _ _)

@[sl_canon] theorem cp00 (hh) : (cc0_scratch7.slice (Rect.unit (s := S2x2) ![0, 0] S1x1.size hh)).squeeze S_ squeezes_S1x1_S_ = cpSem 0 0 := cp_congr (by decide) _
@[sl_canon] theorem cp01 (hh) : (cc0_scratch7.slice (Rect.unit (s := S2x2) ![0, 1] S1x1.size hh)).squeeze S_ squeezes_S1x1_S_ = cpSem 0 1 := cp_congr (by decide) _
@[sl_canon] theorem cp10 (hh) : (cc0_scratch7.slice (Rect.unit (s := S2x2) ![1, 0] S1x1.size hh)).squeeze S_ squeezes_S1x1_S_ = cpSem 1 0 := cp_congr (by decide) _
@[sl_canon] theorem cp11 (hh) : (cc0_scratch7.slice (Rect.unit (s := S2x2) ![1, 1] S1x1.size hh)).squeeze S_ squeezes_S1x1_S_ = cpSem 1 1 := cp_congr (by decide) _
@[sl_canon] theorem slotK0 (hh hs) : (kB.slice (Rect.unit (s := S2x64x16x8x128) ![0, 0, 0, 0, 0] S1x64x16x8x128.size hh) hs).squeeze S64x16x8x128 squeezes_S1x64x16x8x128_S64x16x8x128 = slotOf kB 0 := slot_congr _ (by decide) _ _
@[sl_canon] theorem slotK1 (hh hs) : (kB.slice (Rect.unit (s := S2x64x16x8x128) ![1, 0, 0, 0, 0] S1x64x16x8x128.size hh) hs).squeeze S64x16x8x128 squeezes_S1x64x16x8x128_S64x16x8x128 = slotOf kB 1 := slot_congr _ (by decide) _ _
@[sl_canon] theorem slotV0 (hh hs) : (vB.slice (Rect.unit (s := S2x64x16x8x128) ![0, 0, 0, 0, 0] S1x64x16x8x128.size hh) hs).squeeze S64x16x8x128 squeezes_S1x64x16x8x128_S64x16x8x128 = slotOf vB 0 := slot_congr _ (by decide) _ _
@[sl_canon] theorem slotV1 (hh hs) : (vB.slice (Rect.unit (s := S2x64x16x8x128) ![1, 0, 0, 0, 0] S1x64x16x8x128.size hh) hs).squeeze S64x16x8x128 squeezes_S1x64x16x8x128_S64x16x8x128 = slotOf vB 1 := slot_congr _ (by decide) _ _

@[sl_canon] theorem chunkK0 (hh hs) : kH.slice (Rect.unit (s := S512x16x8x128) ![0, 0, 0, 0] S64x16x8x128.size hh) hs = chunkOf kH (ev 0) := chunk_congr _ (by decide) _ _
@[sl_canon] theorem chunkK1 (hh hs) : kH.slice (Rect.unit (s := S512x16x8x128) ![64, 0, 0, 0] S64x16x8x128.size hh) hs = chunkOf kH (od 0) := chunk_congr _ (by decide) _ _
@[sl_canon] theorem chunkV0 (hh hs) : vH.slice (Rect.unit (s := S512x16x8x128) ![0, 0, 0, 0] S64x16x8x128.size hh) hs = chunkOf vH (ev 0) := chunk_congr _ (by decide) _ _
@[sl_canon] theorem chunkV1 (hh hs) : vH.slice (Rect.unit (s := S512x16x8x128) ![64, 0, 0, 0] S64x16x8x128.size hh) hs = chunkOf vH (od 0) := chunk_congr _ (by decide) _ _

variable (k : Fin k0_t1_loop.trips)
@[sl_canon] theorem chunkK_ev (hh hs) : kH.slice (Rect.unit (s := S512x16x8x128) (k0_off1 k) S64x16x8x128.size hh) hs = chunkOf kH (ev k.val) := chunk_congr _ (off1_ev k) _ _
@[sl_canon] theorem chunkV_ev (hh hs) : vH.slice (Rect.unit (s := S512x16x8x128) (k0_off1 k) S64x16x8x128.size hh) hs = chunkOf vH (ev k.val) := chunk_congr _ (off1_ev k) _ _
@[sl_canon] theorem chunkK_od (hh hs) : kH.slice (Rect.unit (s := S512x16x8x128) (k0_off4 k) S64x16x8x128.size hh) hs = chunkOf kH (od k.val) := chunk_congr _ (off4_od k) _ _
@[sl_canon] theorem chunkV_od (hh hs) : vH.slice (Rect.unit (s := S512x16x8x128) (k0_off4 k) S64x16x8x128.size hh) hs = chunkOf vH (od k.val) := chunk_congr _ (off4_od k) _ _
@[sl_canon] theorem chunkK_ev1 (hk : k.val < 3) (hh hs) : kH.slice (Rect.unit (s := S512x16x8x128) (k0_off3 k) S64x16x8x128.size hh) hs = chunkOf kH (ev (k.val + 1)) := chunk_congr _ (off3_ev k hk) _ _
@[sl_canon] theorem chunkV_ev1 (hk : k.val < 3) (hh hs) : vH.slice (Rect.unit (s := S512x16x8x128) (k0_off3 k) S64x16x8x128.size hh) hs = chunkOf vH (ev (k.val + 1)) := chunk_congr _ (off3_ev k hk) _ _
@[sl_canon] theorem chunkK_od1 (hk : k.val < 3) (hh hs) : kH.slice (Rect.unit (s := S512x16x8x128) (k0_off6 k) S64x16x8x128.size hh) hs = chunkOf kH (od (k.val + 1)) := chunk_congr _ (off6_od k hk) _ _
@[sl_canon] theorem chunkV_od1 (hk : k.val < 3) (hh hs) : vH.slice (Rect.unit (s := S512x16x8x128) (k0_off6 k) S64x16x8x128.size hh) hs = chunkOf vH (od (k.val + 1)) := chunk_congr _ (off6_od k hk) _ _

end Canon

/-! ## Pieces -/

section Pieces
variable (c : Dev nD)

abbrev ConPg (F : FTy → Type) : Type := (main_arg1 : Ref sig .tc).ty.Contents (Elt F)
abbrev ConBuf (F : FTy → Type) : Type := (cc0_scratch0 : Ref sig .tc).ty.Contents (Elt F)

/-- The index of chunk `b`'s element under the page buffer's element `i` (whatever its slot). -/
def underIdx (b : Fin 8) (i : S2x64x16x8x128.Idx) : S512x16x8x128.Idx :=
  fun a => match a with
    | ⟨0, _⟩ => ⟨64 * b.val + (i 1).val, by have h : (i 1).val < 64 := (i 1).isLt; have := b.isLt; show _ < 512; omega⟩
    | ⟨1, _⟩ => ⟨(i 2).val, (i 2).isLt⟩
    | ⟨2, _⟩ => ⟨(i 3).val, (i 3).isLt⟩
    | ⟨3, _⟩ => ⟨(i 4).val, (i 4).isLt⟩
/-- A page buffer holding chunk `b` of `X` in both slots: what a slot's elements are read from after chunk `b` landed there. -/
def slotCont (X : ConPg F) (b : Fin 8) : ConBuf F := fun i => X (underIdx b i)

abbrev cpCell (s t : Fin 2) : sProp 𝕄 := semVal ((c : Thread nD τ), SemLoc.dma (cpSem s t).sem) 0
abbrev slotK (s : Fin 2) (f : ConBuf F) : sProp 𝕄 :=
  (slotOf kB s).view.loc (c : Thread nD τ) ↦[(slotOf kB s).view.set]{fullShare} f
abbrev slotV (s : Fin 2) (f : ConBuf F) : sProp 𝕄 :=
  (slotOf vB s).view.loc (c : Thread nD τ) ↦[(slotOf vB s).view.set]{fullShare} f
abbrev homeK (X : ConPg F) (b : Fin 8) : sProp 𝕄 :=
  (chunkOf kH b).view.loc (c : Thread nD τ) ↦[(chunkOf kH b).view.set]{fullShare} X
abbrev homeV (X : ConPg F) (b : Fin 8) : sProp 𝕄 :=
  (chunkOf vH b).view.loc (c : Thread nD τ) ↦[(chunkOf vH b).view.set]{fullShare} X

/-- One chunk's transfer, in units. -/
abbrev NC : ℕ := 131072

/-- Chunk `b` of `K` (of `V`) in flight to slot `s`. -/
abbrev flyK (X : ConPg F) (s : Fin 2) (b : Fin 8) : sProp 𝕄 :=
  Transfers.Flight countersEmb (c : Thread nD τ) (SemLoc.dma (cpSem s 0).sem) () NC iprop(slotK c s (slotCont X b) ∗ homeK c X b)
abbrev flyV (X : ConPg F) (s : Fin 2) (b : Fin 8) : sProp 𝕄 :=
  Transfers.Flight countersEmb (c : Thread nD τ) (SemLoc.dma (cpSem s 1).sem) () NC iprop(slotV c s (slotCont X b) ∗ homeV c X b)

end Pieces

end Cert.Paged

end
-- ==== Proof.Landing.lean ====
/-
  A CHUNK LANDED IN A SLOT is the slot at the chunk's canonical contents (`slotCont`), whatever the buffer held before.
-/
module

public import proofs.«01_k».proof.Proof.Copies

@[expose] public section

noncomputable section

namespace Cert.Paged

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- Element `x` of a slot lies, in the page buffer, over element `x` of the chunk. -/
theorem under_slot (M : Memref sig .tc .vmem S2x64x16x8x128 .f32) (N : Memref sig .tc .hbm S512x16x8x128 .f32) (s : Fin 2) (b : Fin 8)
    (x : S64x16x8x128.Idx) :
    underIdx b ((Rect.unit (s := S2x64x16x8x128) (slotOff s) S1x64x16x8x128.size (slotOff_inb s)).emb
        (Shape.reshapeEquiv (s := S1x64x16x8x128) (s' := S64x16x8x128) squeezes_S1x64x16x8x128_S64x16x8x128.numel_eq x))
      = (Rect.unit (s := S512x16x8x128) (chunkOff b) S64x16x8x128.size (chunkOff_inb b)).emb x := by
  have e : Shape.reshapeEquiv (s := S1x64x16x8x128) (s' := S64x16x8x128) squeezes_S1x64x16x8x128_S64x16x8x128.numel_eq x
      = (Fin.cons (α := fun a => Fin (S1x64x16x8x128.size a)) ⟨0, Nat.one_pos⟩ x : S1x64x16x8x128.Idx) := Shape.reshapeEquiv_cons_one _ x
  rw [e]
  funext a
  apply Fin.ext
  match a with
  | ⟨0, _⟩ => show 64 * b.val + (0 + 1 * (x 0).val) = 64 * b.val + 1 * (x 0).val; omega
  | ⟨1, _⟩ => rfl
  | ⟨2, _⟩ => rfl
  | ⟨3, _⟩ => rfl

theorem slot_embK (s : Fin 2) (x : S64x16x8x128.Idx) : (slotOf kB s).view.emb x
    = (Rect.unit (s := S2x64x16x8x128) (slotOff s) S1x64x16x8x128.size (slotOff_inb s)).emb
        (Shape.reshapeEquiv (s := S1x64x16x8x128) (s' := S64x16x8x128) squeezes_S1x64x16x8x128_S64x16x8x128.numel_eq x) := rfl
theorem chunk_embK (b : Fin 8) (x : S64x16x8x128.Idx) : (chunkOf kH b).view.emb x
    = (Rect.unit (s := S512x16x8x128) (chunkOff b) S64x16x8x128.size (chunkOff_inb b)).emb x := rfl
theorem slot_embV (s : Fin 2) (x : S64x16x8x128.Idx) : (slotOf vB s).view.emb x
    = (Rect.unit (s := S2x64x16x8x128) (slotOff s) S1x64x16x8x128.size (slotOff_inb s)).emb
        (Shape.reshapeEquiv (s := S1x64x16x8x128) (s' := S64x16x8x128) squeezes_S1x64x16x8x128_S64x16x8x128.numel_eq x) := rfl
theorem chunk_embV (b : Fin 8) (x : S64x16x8x128.Idx) : (chunkOf vH b).view.emb x
    = (Rect.unit (s := S512x16x8x128) (chunkOff b) S64x16x8x128.size (chunkOff_inb b)).emb x := rfl

section
variable (c : Dev nD)

theorem landedK (X : ConPg F) (f : ConBuf F) (s : Fin 2) (b : Fin 8) :
    ((slotOf kB s).view.loc (c : Thread nD τ) ↦[(slotOf kB s).view.set]{fullShare}
        (slotOf kB s).view.writes (Elt F) f [⟨Rect.whole S64x16x8x128, ReadAs.same.apply ((chunkOf kH b).view.read (Elt F) X)⟩] : sProp 𝕄)
      = slotK c s (slotCont X b) := by
  apply pointsTo_congr
  intro i hi
  obtain ⟨x, -, rfl⟩ := Finset.mem_map.mp hi
  have h1 := View.read_writes_cons_emb (Val := Elt F) (slotOf kB s).view f (Rect.whole S64x16x8x128)
    (ReadAs.same.apply ((chunkOf kH b).view.read (Elt F) X)) [] x
  have h0 : (Rect.whole S64x16x8x128).emb x = x := by
    funext a; apply Fin.ext; show 0 + 1 * (x a).val = (x a).val; omega
  rw [h0] at h1
  rw [View.read_apply] at h1
  refine ((cast_eq rfl _).symm.trans h1).trans ?_
  show X ((chunkOf kH b).view.emb x) = X (underIdx b ((slotOf kB s).view.emb x))
  rw [slot_embK, chunk_embK, under_slot kB kH s b x]

theorem landedV (X : ConPg F) (f : ConBuf F) (s : Fin 2) (b : Fin 8) :
    ((slotOf vB s).view.loc (c : Thread nD τ) ↦[(slotOf vB s).view.set]{fullShare}
        (slotOf vB s).view.writes (Elt F) f [⟨Rect.whole S64x16x8x128, ReadAs.same.apply ((chunkOf vH b).view.read (Elt F) X)⟩] : sProp 𝕄)
      = slotV c s (slotCont X b) := by
  apply pointsTo_congr
  intro i hi
  obtain ⟨x, -, rfl⟩ := Finset.mem_map.mp hi
  have h1 := View.read_writes_cons_emb (Val := Elt F) (slotOf vB s).view f (Rect.whole S64x16x8x128)
    (ReadAs.same.apply ((chunkOf vH b).view.read (Elt F) X)) [] x
  have h0 : (Rect.whole S64x16x8x128).emb x = x := by
    funext a; apply Fin.ext; show 0 + 1 * (x a).val = (x a).val; omega
  rw [h0] at h1
  rw [View.read_apply] at h1
  refine ((cast_eq rfl _).symm.trans h1).trans ?_
  show X ((chunkOf vH b).view.emb x) = X (underIdx b ((slotOf vB s).view.emb x))
  rw [slot_embV, chunk_embV, under_slot vB vH s b x]

/-- A transfer just issued is the flight of its chunk. -/
theorem flyK_issued (X : ConPg F) (f : ConBuf F) (s : Fin 2) (b : Fin 8) :
    flyK c X s b = Transfers.Flight countersEmb (c : Thread nD τ) (SemLoc.dma (cpSem s 0).sem) () NC
      iprop(((slotOf kB s).view.loc (c : Thread nD τ) ↦[(slotOf kB s).view.set]{fullShare}
        (slotOf kB s).view.writes (Elt F) f [⟨Rect.whole S64x16x8x128, ReadAs.same.apply ((chunkOf kH b).view.read (Elt F) X)⟩]) ∗ homeK c X b) := by
  rw [landedK]
theorem flyV_issued (X : ConPg F) (f : ConBuf F) (s : Fin 2) (b : Fin 8) :
    flyV c X s b = Transfers.Flight countersEmb (c : Thread nD τ) (SemLoc.dma (cpSem s 1).sem) () NC
      iprop(((slotOf vB s).view.loc (c : Thread nD τ) ↦[(slotOf vB s).view.set]{fullShare}
        (slotOf vB s).view.writes (Elt F) f [⟨Rect.whole S64x16x8x128, ReadAs.same.apply ((chunkOf vH b).view.read (Elt F) X)⟩]) ∗ homeV c X b) := by
  rw [landedV]
end

end Cert.Paged

end
-- ==== Proof.Steps.lean ====
/-
  THE VALUES OF THE LOOP: one head's running maximum, sum and accumulator, and what one chunk of pages does to them, as the
  kernel's own vector operations. The eight heads are a function of the head.
-/
module

public import proofs.«01_k».proof.Proof.Landing

@[expose] public section

noncomputable section

namespace Cert.Paged

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- What the loop carries: eight maxima, eight sums, eight accumulators. -/
abbrev Car (F : FTy → Type) : Type := FVec F S8x1 .f32 × FVec F S8x1 .f32 × FVec F S8x1 .f32 × FVec F S8x1 .f32 × FVec F S8x1 .f32 × FVec F S8x1 .f32 × FVec F S8x1 .f32 × FVec F S8x1 .f32 × FVec F S8x1 .f32 × FVec F S8x1 .f32 × FVec F S8x1 .f32 × FVec F S8x1 .f32 × FVec F S8x1 .f32 × FVec F S8x1 .f32 × FVec F S8x1 .f32 × FVec F S8x1 .f32 × FVec F S8x128 .f32 × FVec F S8x128 .f32 × FVec F S8x128 .f32 × FVec F S8x128 .f32 × FVec F S8x128 .f32 × FVec F S8x128 .f32 × FVec F S8x128 .f32 × FVec F S8x128 .f32

/-- One head's state: the maxima of the eight requests, the sums, the accumulators. -/
abbrev Hd (F : FTy → Type) : Type := FVec F S8x1 .f32 × FVec F S8x1 .f32 × FVec F S8x128 .f32

/-- The eight heads' states in the loop's own order. -/
abbrev toCar (st : Fin 8 → Hd F) : Car F :=
  ((st 0).1, (st 1).1, (st 2).1, (st 3).1, (st 4).1, (st 5).1, (st 6).1, (st 7).1,
   (st 0).2.1, (st 1).2.1, (st 2).2.1, (st 3).2.1, (st 4).2.1, (st 5).2.1, (st 6).2.1, (st 7).2.1,
   (st 0).2.2, (st 1).2.2, (st 2).2.2, (st 3).2.2, (st 4).2.2, (st 5).2.2, (st 6).2.2, (st 7).2.2)

abbrev qS : Memref sig .tc .vmem S8x1x8x128 .f32 := Memref.whole cc0_stg0_0
abbrev wB : Memref sig .tc .vmem S8x8x64 .f32 := Memref.whole cc0_scratch2

abbrev ConQ (F : FTy → Type) : Type := (cc0_stg0_0 : Ref sig .tc).ty.Contents (Elt F)
abbrev ConW (F : FTy → Type) : Type := (cc0_scratch2 : Ref sig .tc).ty.Contents (Elt F)

theorem qInb (h : Fin 8) : ∀ a, (![0, 0, h.val, 0] : Fin 4 → Nat) a + S8x1x1x128.size a ≤ S8x1x8x128.size a := by
  revert h; decide
theorem pgInb (s : Fin 2) (h : Fin 8) : ∀ a, (![s.val, 0, 0, h.val, 0] : Fin 5 → Nat) a + S1x64x16x1x128.size a ≤ S2x64x16x8x128.size a := by
  revert s h; decide

/-- Head `h` of the queries. -/
abbrev qAt (XQ : ConQ F) (h : Fin 8) : Vec F S8x1x1x128 .f32 :=
  View.readAt (Elt F) qS.view (Rect.unit (s := S8x1x8x128) ![0, 0, h.val, 0] S8x1x1x128.size (qInb h)).toLoadRect XQ
/-- Head `h` of the pages in slot `s`. -/
abbrev pgAt (X : ConBuf F) (s : Fin 2) (h : Fin 8) : Vec F S1x64x16x1x128 .f32 :=
  View.readAt (Elt F) kB.view (Rect.unit (s := S2x64x16x8x128) ![s.val, 0, 0, h.val, 0] S1x64x16x1x128.size (pgInb s h)).toLoadRect X

/-- One chunk of pages, in slot `s`, taken into head `h`'s state; `w` is the chunk's weights. -/
def stepHd (XQ : ConQ F) (XK XV : ConPg F) (s : Fin 2) (b : Fin 8) (w : FVec F S8x1024 .f32) (h : Fin 8) (st : Hd F) : Hd F :=
  (k0_pay5 st.1 (k0_pay3 (qAt XQ h)) (pgAt (slotCont XK b) s h),
   k0_pay8 st.1 st.2.1 w (k0_pay3 (qAt XQ h)) (pgAt (slotCont XK b) s h),
   k0_pay9 st.1 st.2.2 w (k0_pay3 (qAt XQ h)) (pgAt (slotCont XK b) s h) (pgAt (slotCont XV b) s h))

/-- The weights trip `k` reads for its even and for its odd chunk. -/
def wEv (XW : ConW F) (k : Fin k0_t1_loop.trips) : FVec F S8x1024 .f32 :=
  k0_pay2 (View.readAt (Elt F) wB.view (Rect.unit (s := S8x8x64) (k0_off2 k) S1x8x64.size (k0_off2_inb k)).toLoadRect XW)
def wOd (XW : ConW F) (k : Fin k0_t1_loop.trips) : FVec F S8x1024 .f32 :=
  k0_pay2 (View.readAt (Elt F) wB.view (Rect.unit (s := S8x8x64) (k0_off5 k) S1x8x64.size (k0_off5_inb k)).toLoadRect XW)

/-- One trip: its even chunk, then its odd chunk, every head. -/
def stepTrip (XQ : ConQ F) (XK XV : ConPg F) (XW : ConW F) (k : Fin k0_t1_loop.trips) (st : Fin 8 → Hd F) : Fin 8 → Hd F :=
  fun h => stepHd XQ XK XV 1 (od k.val) (wOd XW k) h (stepHd XQ XK XV 0 (ev k.val) (wEv XW k) h (st h))

end Cert.Paged

end
-- ==== Proof.Trip.lean ====
/-
  ONE TRIP OF THE LOOP: the two chunks in flight are waited for and taken into the heads' states, and the next two are
  sent for (except on the last trip).
-/
module

public import proofs.«01_k».proof.Proof.Steps

@[expose] public section

noncomputable section

namespace Cert.Paged

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

theorem mayWait_cp (c : Dev nD) (s t : Fin 2) :
    (levAts L lv : sProp 𝕄) ⊢ MayWait (c : Thread nD τ) (SemLoc.dma (cpSem s t).sem) () (O₀ c) :=
  mayWait_low c _ (by revert s t; decide) (by revert s t; decide) (by revert s t; decide) _ (.inl rfl)
theorem mayWait_cp4 (c : Dev nD) : (levAts L lv : sProp 𝕄) ⊢ MayWait (c : Thread nD τ) (SemLoc.dma ⟨4, by decide⟩) () (O₀ c) := mayWait_cp c 0 0
theorem mayWait_cp5 (c : Dev nD) : (levAts L lv : sProp 𝕄) ⊢ MayWait (c : Thread nD τ) (SemLoc.dma ⟨5, by decide⟩) () (O₀ c) := mayWait_cp c 0 1
theorem mayWait_cp6 (c : Dev nD) : (levAts L lv : sProp 𝕄) ⊢ MayWait (c : Thread nD τ) (SemLoc.dma ⟨6, by decide⟩) () (O₀ c) := mayWait_cp c 1 0
theorem mayWait_cp7 (c : Dev nD) : (levAts L lv : sProp 𝕄) ⊢ MayWait (c : Thread nD τ) (SemLoc.dma ⟨7, by decide⟩) () (O₀ c) := mayWait_cp c 1 1

abbrev trip (k : Fin k0_t1_loop.trips) (a : Car F) : Prog (TpuEff nD τ sig (Elt F) Λ₀ .tc) (Car F) :=
  k0_t1_body (F := F) qS (Memref.isWhole_whole _) kH (Memref.isWhole_whole _) vH (Memref.isWhole_whole _)
   (Memref.whole cc0_stg1_0) (Memref.isWhole_whole _) (Memref.whole cc0_stg2_0) (Memref.isWhole_whole _) (Memref.whole cc0_stg3_0) (Memref.isWhole_whole _)
   kB (Memref.isWhole_whole _) vB (Memref.isWhole_whole _) wB (Memref.isWhole_whole _) oSend (Memref.isWhole_whole _) oRecv (Memref.isWhole_whole _)
   stSend (Memref.isWhole_whole _) stRecv (Memref.isWhole_whole _) cc0_scratch7 cc0_scratch8 cc0_scratch9 k a

section Trip
variable (c : Dev nD) (XQ : ConQ F) (XK XV : ConPg F) (XW : ConW F)

/-- What every trip reads and keeps: the queries, the weights, and the device's debt. -/
abbrev kept : sProp 𝕄 := iprop(wholePts c cc0_stg0_0 XQ ∗ wholePts c cc0_scratch2 XW ∗ (∃ W, owes (c : Thread nD τ) (O₀ c) W))
/-- Trip `k`'s two chunks of both arrays, at home. -/
abbrev homes (k : ℕ) : sProp 𝕄 := iprop(homeK c XK (ev k) ∗ homeK c XK (od k) ∗ homeV c XV (ev k) ∗ homeV c XV (od k))
/-- Trip `k`'s two chunks of both arrays, in flight to the slots. -/
abbrev flights (k : ℕ) : sProp 𝕄 := iprop(flyK c XK 0 (ev k) ∗ flyV c XV 0 (ev k) ∗ flyK c XK 1 (od k) ∗ flyV c XV 1 (od k))
/-- Nothing in flight: the slots held, at some contents, and their cells at zero. -/
abbrev idle : sProp 𝕄 :=
  iprop((∃ f, slotK c 0 f) ∗ (∃ f, slotV c 0 f) ∗ (∃ f, slotK c 1 f) ∗ (∃ f, slotV c 1 f)
    ∗ cpCell c 0 0 ∗ cpCell c 0 1 ∗ cpCell c 1 0 ∗ cpCell c 1 1)

set_option maxRecDepth 8000 in
set_option backward.proofsInPublic true in
theorem tripA (k : Fin k0_t1_loop.trips) (hk : k.val < 3) (st : Fin 8 → Hd F) :
      iprop(levAts L lv ∗ kept c XQ XW ∗ homes c XK XV (k.val + 1) ∗ flights c XK XV k.val)
      ⊢ wp frame (wpE (defs₀ (F := F)) 𝒱₀ (c : Thread nD τ) none) Set.univ (trip k (toCar st))
        (fun r => iprop(⌜r = toCar (stepTrip XQ XK XV XW k st)⌝ ∗ kept c XQ XW ∗ homes c XK XV k.val ∗ flights c XK XV (k.val + 1))) := by
    have hc1 := cond1_of k hk
    have hc2 := cond2_of k hk
    have hm4 := mayWait_cp4 (F := F) c
    have hm5 := mayWait_cp5 (F := F) c
    have hm6 := mayWait_cp6 (F := F) c
    have hm7 := mayWait_cp7 (F := F) c
    iintro ⟨#Hlev, ⟨HQ, Hw, ⟨%W, HO⟩⟩, ⟨HhKe, HhKo, HhVe, HhVo⟩, HK0, HV0, HK1, HV1⟩
    dsimp only [trip]
    sl_unfold [k0_t1_body]
    sl_exec
    sl_step
    isplitr; · ipureintro; rfl
    isplitl [HQ Hw HO]
    · isplitl [HQ]; · iexact HQ
      isplitl [Hw]; · iexact Hw
      iexists _; iexact HO
    isplitl [HK0_src HK1_src HV0_src HV1_src]
    · isplitl [HK0_src]; · iexact HK0_src
      isplitl [HK1_src]; · iexact HK1_src
      isplitl [HV0_src]; · iexact HV0_src
      iexact HV1_src
    isplitl [HK0]; · irw [flyK_issued c XK (slotCont XK (ev k.val)) 0]; iexact HK0
    isplitl [HV0]; · irw [flyV_issued c XV (slotCont XV (ev k.val)) 0]; iexact HV0
    isplitl [HK1]; · irw [flyK_issued c XK (slotCont XK (od k.val)) 1]; iexact HK1
    irw [flyV_issued c XV (slotCont XV (od k.val)) 1]; iexact HV1

set_option maxRecDepth 8000 in
set_option backward.proofsInPublic true in
theorem tripB (k : Fin k0_t1_loop.trips) (hk : ¬ k.val < 3) (st : Fin 8 → Hd F) :
      iprop(levAts L lv ∗ kept c XQ XW ∗ flights c XK XV k.val)
      ⊢ wp frame (wpE (defs₀ (F := F)) 𝒱₀ (c : Thread nD τ) none) Set.univ (trip k (toCar st))
        (fun r => iprop(⌜r = toCar (stepTrip XQ XK XV XW k st)⌝ ∗ kept c XQ XW ∗ homes c XK XV k.val ∗ idle c)) := by
    have hc1 := cond1_last k hk
    have hc2 := cond2_last k hk
    have hm4 := mayWait_cp4 (F := F) c
    have hm5 := mayWait_cp5 (F := F) c
    have hm6 := mayWait_cp6 (F := F) c
    have hm7 := mayWait_cp7 (F := F) c
    iintro ⟨#Hlev, ⟨HQ, Hw, ⟨%W, HO⟩⟩, HK0, HV0, HK1, HV1⟩
    dsimp only [trip]
    sl_unfold [k0_t1_body]
    sl_exec
    sl_step
    isplitr; · ipureintro; rfl
    isplitl [HQ Hw HO]
    · isplitl [HQ]; · iexact HQ
      isplitl [Hw]; · iexact Hw
      iexists _; iexact HO
    isplitl [HK0_src HK1_src HV0_src HV1_src]
    · isplitl [HK0_src]; · iexact HK0_src
      isplitl [HK1_src]; · iexact HK1_src
      isplitl [HV0_src]; · iexact HV0_src
      iexact HV1_src
    isplitl [HK0_dst]; · iexists _; iexact HK0_dst
    isplitl [HV0_dst]; · iexists _; iexact HV0_dst
    isplitl [HK1_dst]; · iexists _; iexact HK1_dst
    isplitl [HV1_dst]; · iexists _; iexact HV1_dst
    isplitl [HK0]; · iexact HK0
    isplitl [HV0]; · iexact HV0
    isplitl [HK1]; · iexact HK1
    iexact HV1
end Trip

end Cert.Paged

end
-- ==== Proof.Loop.lean ====
/-
  THE LOOP over the chunks of pages: what holds before trip `k`. The heads' states are those of `k` trips; trip `k`'s two
  chunks are in flight and every other chunk is at home; after the last trip nothing is in flight.
-/
module

public import proofs.«01_k».proof.Proof.Trip

@[expose] public section

noncomputable section

namespace Cert.Paged

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section Loop
variable (c : Dev nD) (XQ : ConQ F) (XK XV : ConPg F) (XW : ConW F)

/-- The heads' states before any chunk: maxima at the finite seed, sums and accumulators zero. -/
def st0 : Fin 8 → Hd F := fun _ => (k0_pay131, k0_pay139, k0_pay147)
/-- The heads' states after `k` trips. -/
def stAt : ℕ → Fin 8 → Hd F
  | 0 => st0
  | k + 1 => if h : k < k0_t1_loop.trips then stepTrip XQ XK XV XW ⟨k, h⟩ (stAt k) else stAt k
theorem stAt_succ (k : Fin k0_t1_loop.trips) : stAt XQ XK XV XW (k.val + 1) = stepTrip XQ XK XV XW k (stAt XQ XK XV XW k.val) :=
  dif_pos k.isLt

/-- The chunks that are at home before trip `k`. -/
abbrev restHomes (k : ℕ) : sProp 𝕄 := bigSep ((Finset.range 4).erase k) (homes c XK XV)
/-- The state of the slots before trip `k`. -/
def slotsAt (k : ℕ) : sProp 𝕄 := if k < 4 then flights c XK XV k else idle c
theorem slotsAt_lt {k : ℕ} (h : k < 4) : slotsAt c XK XV k = flights c XK XV k := if_pos h
theorem slotsAt_4 : slotsAt c XK XV 4 = idle c := if_neg (by decide)

/-- What holds before trip `k`. -/
def loopInv (k : ℕ) (acc : Car F) : sProp 𝕄 :=
  iprop(⌜acc = toCar (stAt XQ XK XV XW k)⌝ ∗ levAts L lv ∗ kept c XQ XW ∗ restHomes c XK XV k ∗ slotsAt c XK XV k)

omit [FloatOps F] in
theorem restHomes_split {k : ℕ} (hk : k < 3) :
    restHomes c XK XV k = iprop(homes c XK XV (k + 1) ∗ bigSep (((Finset.range 4).erase k).erase (k + 1)) (homes c XK XV)) :=
  BI.bigSep_erase (Finset.mem_erase.mpr ⟨by omega, Finset.mem_range.mpr (by omega)⟩)
omit [FloatOps F] in
theorem restHomes_join {k : ℕ} (hk : k < 3) :
    restHomes c XK XV (k + 1) = iprop(homes c XK XV k ∗ bigSep (((Finset.range 4).erase k).erase (k + 1)) (homes c XK XV)) := by
  rw [Finset.erase_right_comm]
  exact BI.bigSep_erase (Finset.mem_erase.mpr ⟨by omega, Finset.mem_range.mpr (by omega)⟩)
omit [FloatOps F] in
theorem restHomes_last : restHomes c XK XV 4 = iprop(homes c XK XV 3 ∗ restHomes c XK XV 3) := by
  show bigSep ((Finset.range 4).erase 4) _ = _
  rw [Finset.erase_eq_of_notMem (by decide)]
  exact BI.bigSep_erase (by decide)

theorem loop_step (k : Fin k0_t1_loop.trips) (acc : Car F) :
    loopInv c XQ XK XV XW k.val acc
      ⊢ wp frame (wpE (defs₀ (F := F)) 𝒱₀ (c : Thread nD τ) none) Set.univ (trip k acc) (loopInv c XQ XK XV XW (k.val + 1)) := by
  have hk4 : k.val < 4 := lt_of_lt_of_eq k.isLt trips_eq
  unfold loopInv
  rw [stAt_succ, slotsAt_lt c XK XV hk4]
  by_cases hk : k.val < 3
  · rw [restHomes_split c XK XV hk, restHomes_join c XK XV hk, slotsAt_lt c XK XV (by omega : k.val + 1 < 4)]
    iintro ⟨%e, #Hlev, Hkept, ⟨Hnext, Hrest⟩, Hfl⟩
    subst e
    iapply (wp_wand_r frame (wpE (defs₀ (F := F)) 𝒱₀ (c : Thread nD τ) none) Set.univ)
    isplitl [Hkept Hnext Hfl]
    · iapply (tripA c XQ XK XV XW k hk (stAt XQ XK XV XW k.val))
      isplitr; · iexact Hlev
      isplitl [Hkept]; · iexact Hkept
      isplitl [Hnext]; · iexact Hnext
      iexact Hfl
    · iintro %r ⟨%e, Hkept, Hhome, Hfl⟩
      isplitr; · ipureintro; exact e
      isplitr; · iexact Hlev
      isplitl [Hkept]; · iexact Hkept
      isplitl [Hhome Hrest]
      · isplitl [Hhome]; · iexact Hhome
        iexact Hrest
      iexact Hfl
  · have e3 : k.val = 3 := by omega
    iintro ⟨%e, #Hlev, Hkept, Hrest, Hfl⟩
    subst e
    iapply (wp_wand_r frame (wpE (defs₀ (F := F)) 𝒱₀ (c : Thread nD τ) none) Set.univ)
    isplitl [Hkept Hfl]
    · iapply (tripB c XQ XK XV XW k hk (stAt XQ XK XV XW k.val))
      isplitr; · iexact Hlev
      isplitl [Hkept]; · iexact Hkept
      iexact Hfl
    · iintro %r ⟨%e, Hkept, Hhome, Hidle⟩
      isplitr; · ipureintro; exact e
      isplitr; · iexact Hlev
      isplitl [Hkept]; · iexact Hkept
      simp only [e3]
      irw [slotsAt_4, restHomes_last]
      isplitl [Hhome Hrest]
      · isplitl [Hhome]; · iexact Hhome
        iexact Hrest
      iexact Hidle
end Loop

end Cert.Paged

end
-- ==== Proof.Stores.lean ====
/-
  WHAT THE KERNEL STORES, buffer by buffer, each as ONE function of the whole buffer: the weights of the pages, the partial
  results sent to the mate, and the result. A buffer filled piece by piece holds that function, whatever it held before.
-/
module

public import proofs.«01_k».proof.Proof.Loop

@[expose] public section

noncomputable section

namespace Cert.Paged

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

abbrev bS : Memref sig .tc .vmem S8x512 .i32 := Memref.whole cc0_stg1_0
abbrev lS : Memref sig .tc .smem S8 .i32 := Memref.whole cc0_stg2_0
abbrev outS : Memref sig .tc .vmem S8x1x8x128 .f32 := Memref.whole cc0_stg3_0

abbrev ConB (F : FTy → Type) : Type := (cc0_stg1_0 : Ref sig .tc).ty.Contents (Elt F)
abbrev ConL (F : FTy → Type) : Type := (cc0_stg2_0 : Ref sig .tc).ty.Contents (Elt F)
abbrev ConR (F : FTy → Type) : Type := (cc0_stg3_0 : Ref sig .tc).ty.Contents (Elt F)

/-- An index by its coordinates. -/
def ix1' {a : ℕ} (i : Fin a) : Shape.Idx ⟨1, ![a]⟩ := fun x => match x with | ⟨0, _⟩ => i
def ix3' {a b d : ℕ} (i : Fin a) (j : Fin b) (k : Fin d) : Shape.Idx ⟨3, ![a, b, d]⟩ :=
  fun x => match x with | ⟨0, _⟩ => i | ⟨1, _⟩ => j | ⟨2, _⟩ => k
def ix4' {a b d e : ℕ} (i : Fin a) (j : Fin b) (k : Fin d) (l : Fin e) : Shape.Idx ⟨4, ![a, b, d, e]⟩ :=
  fun x => match x with | ⟨0, _⟩ => i | ⟨1, _⟩ => j | ⟨2, _⟩ => k | ⟨3, _⟩ => l

theorem lInb (b : Fin 8) : ∀ a, (![b.val] : Fin 1 → Nat) a + S1.size a ≤ S8.size a := by revert b; decide

section Weights
variable (c : Dev nD) (XB : ConB F) (XL : ConL F)

/-- The length of request `b`. -/
def lenAt (b : Fin 8) : BitVec 32 :=
  View.readAt (Elt F) lS.view (Rect.unit (s := S8) ![b.val] S1.size (lInb b)).toLoadRect XL (Shape.Idx.first (show 0 < S1.numel by decide))
/-- The page table, with a unit axis for the pages it is compared with. -/
def tabV : IVec S8x512x1 32 :=
  k0_pay118 (F := F) (View.readAt (Elt F) bS.view (Rect.unit (s := S8x512) ![0, 0] S8x512.size inb_S8x512_S8x512_0_0).toLoadRect XB)
/-- Which entries of the page table count. -/
def maskV : IVec S8x512x1 1 :=
  k0_pay119 (F := F) (lenAt XL 0) (lenAt XL 1) (lenAt XL 2) (lenAt XL 3) (lenAt XL 4) (lenAt XL 5) (lenAt XL 6) (lenAt XL 7)
/-- The device's coordinate on the axis `x`. -/
def xWord : BitVec 32 := Scalar.remsi (Scalar.divsi (Dev.word c) 8#32) 2#32

/-- The weights of the pages of chunk `p`. -/
def wRow (p : Fin 8) : FVec F S1x8x64 .f32 :=
  match p with
  | 0 => k0_pay121 (tabV XB) (maskV XL) (k0_pay120 c)
  | 1 => k0_pay122 (xWord c) (tabV XB) (maskV XL)
  | 2 => k0_pay124 (k0_pay123 (xWord c) (tabV XB) (maskV XL))
  | 3 => k0_pay125 (xWord c) (tabV XB) (maskV XL)
  | 4 => k0_pay126 (xWord c) (tabV XB) (maskV XL)
  | 5 => k0_pay128 (k0_pay127 (xWord c) (tabV XB) (maskV XL))
  | 6 => k0_pay129 (xWord c) (tabV XB) (maskV XL)
  | 7 => k0_pay130 (xWord c) (tabV XB) (maskV XL)

/-- The weights of all the pages. -/
def wAt : ConW F := fun i => wRow c XB XL (i 0) (ix3' 0 (i 1) (i 2))

theorem wInb (p : Fin 8) : ∀ a, (![p.val, 0, 0] : Fin 3 → Nat) a + S1x8x64.size a ≤ S8x8x64.size a := by
  revert p; decide
theorem wAt_piece (p : Fin 8) (x : S1x8x64.Idx) :
    wAt c XB XL ((Rect.unit (s := S8x8x64) ![p.val, 0, 0] S1x8x64.size (wInb p)).emb x) = wRow c XB XL p x := by
  have h0 : (x 0).val < 1 := (x 0).isLt
  have e0 : ((Rect.unit (s := S8x8x64) ![p.val, 0, 0] S1x8x64.size (wInb p)).emb x) 0 = p := Fin.ext (by
    show p.val + 1 * (x 0).val = p.val; omega)
  have e1 : ix3' (0 : Fin 1) (((Rect.unit (s := S8x8x64) ![p.val, 0, 0] S1x8x64.size (wInb p)).emb x) 1)
      (((Rect.unit (s := S8x8x64) ![p.val, 0, 0] S1x8x64.size (wInb p)).emb x) 2) = x := by
    funext a
    match a with
    | ⟨0, _⟩ => exact Fin.ext (by show 0 = (x 0).val; omega)
    | ⟨1, _⟩ => exact Fin.ext (by show 0 + 1 * (x 1).val = (x 1).val; omega)
    | ⟨2, _⟩ => exact Fin.ext (by show 0 + 1 * (x 2).val = (x 2).val; omega)
  exact congrArg₂ (fun p i => wRow c XB XL p i) e0 e1

theorem writes_w (f : ConW F) :
    wB.view.writes (Elt F) f
      ([⟨Rect.unit (s := S8x8x64) ![7, 0, 0] S1x8x64.size (wInb 7), wRow c XB XL 7⟩,
       ⟨Rect.unit (s := S8x8x64) ![6, 0, 0] S1x8x64.size (wInb 6), wRow c XB XL 6⟩,
       ⟨Rect.unit (s := S8x8x64) ![5, 0, 0] S1x8x64.size (wInb 5), wRow c XB XL 5⟩,
       ⟨Rect.unit (s := S8x8x64) ![4, 0, 0] S1x8x64.size (wInb 4), wRow c XB XL 4⟩,
       ⟨Rect.unit (s := S8x8x64) ![3, 0, 0] S1x8x64.size (wInb 3), wRow c XB XL 3⟩,
       ⟨Rect.unit (s := S8x8x64) ![2, 0, 0] S1x8x64.size (wInb 2), wRow c XB XL 2⟩,
       ⟨Rect.unit (s := S8x8x64) ![1, 0, 0] S1x8x64.size (wInb 1), wRow c XB XL 1⟩,
       ⟨Rect.unit (s := S8x8x64) ![0, 0, 0] S1x8x64.size (wInb 0), wRow c XB XL 0⟩] : List (View.Piece (Elt F) S8x8x64 .f32)) = wAt c XB XL := by
  refine (View.read_whole (Val := Elt F) cc0_scratch2 _).symm.trans ?_
  funext y
  refine View.read_writes_apply_of_pieces wB.view f (wAt c XB XL) _ ?_ y (View.cover_of_tiled (s := S8x8x64) _ S1x8x64.size rfl y)
  simp only [List.forall_mem_cons]
  refine ⟨?_, ?_, ?_, ?_, ?_, ?_, ?_, ?_, fun p h => absurd h List.not_mem_nil⟩
  · exact fun x => (wAt_piece c XB XL 7 x).symm
  · exact fun x => (wAt_piece c XB XL 6 x).symm
  · exact fun x => (wAt_piece c XB XL 5 x).symm
  · exact fun x => (wAt_piece c XB XL 4 x).symm
  · exact fun x => (wAt_piece c XB XL 3 x).symm
  · exact fun x => (wAt_piece c XB XL 2 x).symm
  · exact fun x => (wAt_piece c XB XL 1 x).symm
  · exact fun x => (wAt_piece c XB XL 0 x).symm
end Weights

section Sends
variable (st : Fin 8 → Hd F)

/-- One head's accumulators as they are sent; its maxima (`t = 0`) and sums (`t = 1`) as they are sent. -/
def oRow (s : Hd F) : FVec F S1x8x128 .f32 := k0_pay159 s.2.2
def tRow (s : Hd F) (t : Fin 2) : FVec F S1x8x1 .f32 := match t with | 0 => k0_pay160 s.1 | 1 => k0_pay161 s.2.1

/-- All accumulators; all maxima and sums. -/
def oAll : ConO F := fun i => oRow (st (i 0)) (ix3' 0 (i 1) (i 2))
def tAll : ConT F := fun i => tRow (st (i 2)) (i 0) (ix3' 0 (i 1) 0)

theorem oInb (p : Fin 8) : ∀ a, (![p.val, 0, 0] : Fin 3 → Nat) a + S1x8x128.size a ≤ S8x8x128.size a := by
  revert p; decide
theorem tInb (t : Fin 2) (p : Fin 8) : ∀ a, (![t.val, 0, p.val] : Fin 3 → Nat) a + S1x8x1.size a ≤ S2x8x8.size a := by
  revert t p; decide

theorem oAll_piece (p : Fin 8) (x : S1x8x128.Idx) :
    oAll st ((Rect.unit (s := S8x8x128) ![p.val, 0, 0] S1x8x128.size (oInb p)).emb x) = oRow (st p) x := by
  have h0 : (x 0).val < 1 := (x 0).isLt
  have e0 : ((Rect.unit (s := S8x8x128) ![p.val, 0, 0] S1x8x128.size (oInb p)).emb x) 0 = p := Fin.ext (by
    show p.val + 1 * (x 0).val = p.val; omega)
  have e1 : ix3' (0 : Fin 1) (((Rect.unit (s := S8x8x128) ![p.val, 0, 0] S1x8x128.size (oInb p)).emb x) 1)
      (((Rect.unit (s := S8x8x128) ![p.val, 0, 0] S1x8x128.size (oInb p)).emb x) 2) = x := by
    funext a
    match a with
    | ⟨0, _⟩ => exact Fin.ext (by show 0 = (x 0).val; omega)
    | ⟨1, _⟩ => exact Fin.ext (by show 0 + 1 * (x 1).val = (x 1).val; omega)
    | ⟨2, _⟩ => exact Fin.ext (by show 0 + 1 * (x 2).val = (x 2).val; omega)
  exact congrArg₂ (fun p i => oRow (st p) i) e0 e1

theorem tAll_piece (t : Fin 2) (p : Fin 8) (x : S1x8x1.Idx) :
    tAll st ((Rect.unit (s := S2x8x8) ![t.val, 0, p.val] S1x8x1.size (tInb t p)).emb x) = tRow (st p) t x := by
  have h0 : (x 0).val < 1 := (x 0).isLt
  have h2 : (x 2).val < 1 := (x 2).isLt
  have e0 : ((Rect.unit (s := S2x8x8) ![t.val, 0, p.val] S1x8x1.size (tInb t p)).emb x) 0 = t := Fin.ext (by
    show t.val + 1 * (x 0).val = t.val; omega)
  have e2 : ((Rect.unit (s := S2x8x8) ![t.val, 0, p.val] S1x8x1.size (tInb t p)).emb x) 2 = p := Fin.ext (by
    show p.val + 1 * (x 2).val = p.val; omega)
  have e1 : ix3' (0 : Fin 1) (((Rect.unit (s := S2x8x8) ![t.val, 0, p.val] S1x8x1.size (tInb t p)).emb x) 1) (0 : Fin 1) = x := by
    funext a
    match a with
    | ⟨0, _⟩ => exact Fin.ext (by show 0 = (x 0).val; omega)
    | ⟨1, _⟩ => exact Fin.ext (by show 0 + 1 * (x 1).val = (x 1).val; omega)
    | ⟨2, _⟩ => exact Fin.ext (by show 0 = (x 2).val; omega)
  exact congr (congrArg₂ (fun p t => tRow (st p) t) e2 e0) e1

theorem writes_o (f : ConO F) :
    oSend.view.writes (Elt F) f
      ([⟨Rect.unit (s := S8x8x128) ![7, 0, 0] S1x8x128.size (oInb 7), oRow (st 7)⟩,
       ⟨Rect.unit (s := S8x8x128) ![6, 0, 0] S1x8x128.size (oInb 6), oRow (st 6)⟩,
       ⟨Rect.unit (s := S8x8x128) ![5, 0, 0] S1x8x128.size (oInb 5), oRow (st 5)⟩,
       ⟨Rect.unit (s := S8x8x128) ![4, 0, 0] S1x8x128.size (oInb 4), oRow (st 4)⟩,
       ⟨Rect.unit (s := S8x8x128) ![3, 0, 0] S1x8x128.size (oInb 3), oRow (st 3)⟩,
       ⟨Rect.unit (s := S8x8x128) ![2, 0, 0] S1x8x128.size (oInb 2), oRow (st 2)⟩,
       ⟨Rect.unit (s := S8x8x128) ![1, 0, 0] S1x8x128.size (oInb 1), oRow (st 1)⟩,
       ⟨Rect.unit (s := S8x8x128) ![0, 0, 0] S1x8x128.size (oInb 0), oRow (st 0)⟩] : List (View.Piece (Elt F) S8x8x128 .f32)) = oAll st := by
  refine (View.read_whole (Val := Elt F) cc0_scratch3 _).symm.trans ?_
  funext y
  refine View.read_writes_apply_of_pieces oSend.view f (oAll st) _ ?_ y (View.cover_of_tiled (s := S8x8x128) _ S1x8x128.size rfl y)
  simp only [List.forall_mem_cons]
  refine ⟨?_, ?_, ?_, ?_, ?_, ?_, ?_, ?_, fun p h => absurd h List.not_mem_nil⟩
  · exact fun x => (oAll_piece st 7 x).symm
  · exact fun x => (oAll_piece st 6 x).symm
  · exact fun x => (oAll_piece st 5 x).symm
  · exact fun x => (oAll_piece st 4 x).symm
  · exact fun x => (oAll_piece st 3 x).symm
  · exact fun x => (oAll_piece st 2 x).symm
  · exact fun x => (oAll_piece st 1 x).symm
  · exact fun x => (oAll_piece st 0 x).symm

theorem writes_t (f : ConT F) :
    stSend.view.writes (Elt F) f
      ([⟨Rect.unit (s := S2x8x8) ![1, 0, 7] S1x8x1.size (tInb 1 7), tRow (st 7) 1⟩,
       ⟨Rect.unit (s := S2x8x8) ![0, 0, 7] S1x8x1.size (tInb 0 7), tRow (st 7) 0⟩,
       ⟨Rect.unit (s := S2x8x8) ![1, 0, 6] S1x8x1.size (tInb 1 6), tRow (st 6) 1⟩,
       ⟨Rect.unit (s := S2x8x8) ![0, 0, 6] S1x8x1.size (tInb 0 6), tRow (st 6) 0⟩,
       ⟨Rect.unit (s := S2x8x8) ![1, 0, 5] S1x8x1.size (tInb 1 5), tRow (st 5) 1⟩,
       ⟨Rect.unit (s := S2x8x8) ![0, 0, 5] S1x8x1.size (tInb 0 5), tRow (st 5) 0⟩,
       ⟨Rect.unit (s := S2x8x8) ![1, 0, 4] S1x8x1.size (tInb 1 4), tRow (st 4) 1⟩,
       ⟨Rect.unit (s := S2x8x8) ![0, 0, 4] S1x8x1.size (tInb 0 4), tRow (st 4) 0⟩,
       ⟨Rect.unit (s := S2x8x8) ![1, 0, 3] S1x8x1.size (tInb 1 3), tRow (st 3) 1⟩,
       ⟨Rect.unit (s := S2x8x8) ![0, 0, 3] S1x8x1.size (tInb 0 3), tRow (st 3) 0⟩,
       ⟨Rect.unit (s := S2x8x8) ![1, 0, 2] S1x8x1.size (tInb 1 2), tRow (st 2) 1⟩,
       ⟨Rect.unit (s := S2x8x8) ![0, 0, 2] S1x8x1.size (tInb 0 2), tRow (st 2) 0⟩,
       ⟨Rect.unit (s := S2x8x8) ![1, 0, 1] S1x8x1.size (tInb 1 1), tRow (st 1) 1⟩,
       ⟨Rect.unit (s := S2x8x8) ![0, 0, 1] S1x8x1.size (tInb 0 1), tRow (st 1) 0⟩,
       ⟨Rect.unit (s := S2x8x8) ![1, 0, 0] S1x8x1.size (tInb 1 0), tRow (st 0) 1⟩,
       ⟨Rect.unit (s := S2x8x8) ![0, 0, 0] S1x8x1.size (tInb 0 0), tRow (st 0) 0⟩] : List (View.Piece (Elt F) S2x8x8 .f32)) = tAll st := by
  refine (View.read_whole (Val := Elt F) cc0_scratch5 _).symm.trans ?_
  funext y
  refine View.read_writes_apply_of_pieces stSend.view f (tAll st) _ ?_ y (View.cover_of_tiled (s := S2x8x8) _ S1x8x1.size rfl y)
  simp only [List.forall_mem_cons]
  refine ⟨?_, ?_, ?_, ?_, ?_, ?_, ?_, ?_, ?_, ?_, ?_, ?_, ?_, ?_, ?_, ?_, fun p h => absurd h List.not_mem_nil⟩
  · exact fun x => (tAll_piece st 1 7 x).symm
  · exact fun x => (tAll_piece st 0 7 x).symm
  · exact fun x => (tAll_piece st 1 6 x).symm
  · exact fun x => (tAll_piece st 0 6 x).symm
  · exact fun x => (tAll_piece st 1 5 x).symm
  · exact fun x => (tAll_piece st 0 5 x).symm
  · exact fun x => (tAll_piece st 1 4 x).symm
  · exact fun x => (tAll_piece st 0 4 x).symm
  · exact fun x => (tAll_piece st 1 3 x).symm
  · exact fun x => (tAll_piece st 0 3 x).symm
  · exact fun x => (tAll_piece st 1 2 x).symm
  · exact fun x => (tAll_piece st 0 2 x).symm
  · exact fun x => (tAll_piece st 1 1 x).symm
  · exact fun x => (tAll_piece st 0 1 x).symm
  · exact fun x => (tAll_piece st 1 0 x).symm
  · exact fun x => (tAll_piece st 0 0 x).symm
end Sends

section Result
variable (st : Fin 8 → Hd F) (O : ConO F) (T : ConT F)

/-- Head `h`'s row of what arrived. -/
abbrev tIn (t : Fin 2) (h : Fin 8) : Vec F S1x8x1 .f32 :=
  View.readAt (Elt F) stRecv.view (Rect.unit (s := S2x8x8) ![t.val, 0, h.val] S1x8x1.size (tInb t h)).toLoadRect T
abbrev oIn (h : Fin 8) : Vec F S1x8x128 .f32 :=
  View.readAt (Elt F) oRecv.view (Rect.unit (s := S8x8x128) ![h.val, 0, 0] S1x8x128.size (oInb h)).toLoadRect O
/-- Head `h` of the result: the own partial result and the mate's, joined. -/
def outHd (h : Fin 8) : FVec F S8x1x1x128 .f32 :=
  k0_pay183 (st h).1 (st h).2.1 (st h).2.2 (tIn T 0 h) (tIn T 1 h) (oIn O h)

/-- The result. -/
def outAll : ConR F := fun i => outHd st O T (i 2) (ix4' (i 0) 0 0 (i 3))

theorem outAll_piece (p : Fin 8) (x : S8x1x1x128.Idx) :
    outAll st O T ((Rect.unit (s := S8x1x8x128) ![0, 0, p.val, 0] S8x1x1x128.size (qInb p)).emb x) = outHd st O T p x := by
  have h1 : (x 1).val < 1 := (x 1).isLt
  have h2 : (x 2).val < 1 := (x 2).isLt
  have e2 : ((Rect.unit (s := S8x1x8x128) ![0, 0, p.val, 0] S8x1x1x128.size (qInb p)).emb x) 2 = p := Fin.ext (by
    show p.val + 1 * (x 2).val = p.val; omega)
  have e1 : ix4' (((Rect.unit (s := S8x1x8x128) ![0, 0, p.val, 0] S8x1x1x128.size (qInb p)).emb x) 0) (0 : Fin 1) (0 : Fin 1)
      (((Rect.unit (s := S8x1x8x128) ![0, 0, p.val, 0] S8x1x1x128.size (qInb p)).emb x) 3) = x := by
    funext a
    match a with
    | ⟨0, _⟩ => exact Fin.ext (by show 0 + 1 * (x 0).val = (x 0).val; omega)
    | ⟨1, _⟩ => exact Fin.ext (by show 0 = (x 1).val; omega)
    | ⟨2, _⟩ => exact Fin.ext (by show 0 = (x 2).val; omega)
    | ⟨3, _⟩ => exact Fin.ext (by show 0 + 1 * (x 3).val = (x 3).val; omega)
  exact congrArg₂ (fun p i => outHd st O T p i) e2 e1

theorem writes_out (f : ConR F) :
    outS.view.writes (Elt F) f
      ([⟨Rect.unit (s := S8x1x8x128) ![0, 0, 7, 0] S8x1x1x128.size (qInb 7), outHd st O T 7⟩,
       ⟨Rect.unit (s := S8x1x8x128) ![0, 0, 6, 0] S8x1x1x128.size (qInb 6), outHd st O T 6⟩,
       ⟨Rect.unit (s := S8x1x8x128) ![0, 0, 5, 0] S8x1x1x128.size (qInb 5), outHd st O T 5⟩,
       ⟨Rect.unit (s := S8x1x8x128) ![0, 0, 4, 0] S8x1x1x128.size (qInb 4), outHd st O T 4⟩,
       ⟨Rect.unit (s := S8x1x8x128) ![0, 0, 3, 0] S8x1x1x128.size (qInb 3), outHd st O T 3⟩,
       ⟨Rect.unit (s := S8x1x8x128) ![0, 0, 2, 0] S8x1x1x128.size (qInb 2), outHd st O T 2⟩,
       ⟨Rect.unit (s := S8x1x8x128) ![0, 0, 1, 0] S8x1x1x128.size (qInb 1), outHd st O T 1⟩,
       ⟨Rect.unit (s := S8x1x8x128) ![0, 0, 0, 0] S8x1x1x128.size (qInb 0), outHd st O T 0⟩] : List (View.Piece (Elt F) S8x1x8x128 .f32)) = outAll st O T := by
  refine (View.read_whole (Val := Elt F) cc0_stg3_0 _).symm.trans ?_
  funext y
  refine View.read_writes_apply_of_pieces outS.view f (outAll st O T) _ ?_ y (View.cover_of_tiled (s := S8x1x8x128) _ S8x1x1x128.size rfl y)
  simp only [List.forall_mem_cons]
  refine ⟨?_, ?_, ?_, ?_, ?_, ?_, ?_, ?_, fun p h => absurd h List.not_mem_nil⟩
  · exact fun x => (outAll_piece st O T 7 x).symm
  · exact fun x => (outAll_piece st O T 6 x).symm
  · exact fun x => (outAll_piece st O T 5 x).symm
  · exact fun x => (outAll_piece st O T 4 x).symm
  · exact fun x => (outAll_piece st O T 3 x).symm
  · exact fun x => (outAll_piece st O T 2 x).symm
  · exact fun x => (outAll_piece st O T 1 x).symm
  · exact fun x => (outAll_piece st O T 0 x).symm
end Result

end Cert.Paged

end
-- ==== Proof.Ghost.lean ====
/-
  THE STEPS OF THE HANDSHAKE: what a device holds of the protocol at the start, its signal to the mate, and the two
  transfers to the mate's landing buffers.
-/
module

public import proofs.«01_k».proof.Proof.Stores

@[expose] public section

noncomputable section

namespace Cert.Paged

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section Ghost
variable (AO : Dev nD → ConO F) (AT : Dev nD → ConT F) (K : Dev nD × Fin 5 → ℕ) (c : Dev nD)

/-- The invariants of the cells a device touches: its own five, and the three of the mate's that it pays. -/
def invs : sProp 𝕄 :=
  iprop(cellInv ER (rd AO AT) (K (c, 0)) (kcell (c, 0)) ∗ cellInv ER (rd AO AT) (K (c, 1)) (kcell (c, 1))
    ∗ cellInv ER (rd AO AT) (K (c, 2)) (kcell (c, 2)) ∗ cellInv ER (rd AO AT) (K (c, 3)) (kcell (c, 3))
    ∗ cellInv ER (rd AO AT) (K (c, 4)) (kcell (c, 4))
    ∗ cellInv ER (rd AO AT) (K (mate c, 0)) (kcell (mate c, 0)) ∗ cellInv ER (rd AO AT) (K (mate c, 3)) (kcell (mate c, 3))
    ∗ cellInv ER (rd AO AT) (K (mate c, 4)) (kcell (mate c, 4)))

instance invs_persistent : BI.Persistent (invs AO AT K c) := by unfold invs; infer_instance

/-- What a device starts from: the invariants; its positions at round 0 of its five cells; that the mate's barrier cell and
    its own other four are at round 0; and the tokens of the five duties it pays. -/
def ghost : sProp 𝕄 :=
  iprop(invs AO AT K c
    ∗ (atPos ER (kcell (c, 0)) 0 ∅ 0 ∗ atPos ER (kcell (c, 1)) 0 ∅ 0 ∗ atPos ER (kcell (c, 2)) 0 ∅ 0
      ∗ atPos ER (kcell (c, 3)) 0 ∅ 0 ∗ atPos ER (kcell (c, 4)) 0 ∅ 0)
    ∗ (reached ER (kcell (mate c, 0)) 0 ∗ reached ER (kcell (c, 1)) 0 ∗ reached ER (kcell (c, 2)) 0
      ∗ reached ER (kcell (c, 3)) 0 ∗ reached ER (kcell (c, 4)) 0)
    ∗ (dutyTok ER (kcell (mate c, 0)) 0 () ∗ dutyTok ER (kcell (c, 1)) 0 () ∗ dutyTok ER (kcell (c, 2)) 0 ()
      ∗ dutyTok ER (kcell (mate c, 3)) 0 () ∗ dutyTok ER (kcell (mate c, 4)) 0 ()))

/-- The credit a device waits with: of its barrier and of its two receive cells. -/
def creds : sProp 𝕄 :=
  iprop(cred (tallyAt (kcell (c, 0)) () 1) ∗ cred (tallyAt (kcell (c, 3)) () NO) ∗ cred (tallyAt (kcell (c, 4)) () NT))

omit [FloatOps F] in
theorem duty_mem (k : Fin 5) : () ∈ (rd AO AT).duties (kcell (c, k)) 0 := by
  rw [duties_cell]; exact Finset.mem_singleton_self _

omit [FloatOps F] in
theorem payload_cell (k : Fin 5) (u : Unit) : (rd AO AT).payload (kcell (c, k)) 0 u = pay AO AT c (csem k) := rfl

omit [FloatOps F] in
theorem landed_o (fd : (cc0_scratch4 : Ref sig .tc).ty.Contents (Elt F)) (fs : ConO F) :
    (oRecv : Memref sig .tc .vmem S8x8x128 .f32).view.write (Elt F) fd ((oSend : Memref sig .tc .vmem S8x8x128 .f32).view.read (Elt F) fs) Finset.univ = fs := by
  show (View.whole cc0_scratch4).write (Elt F) fd ((View.whole cc0_scratch3).read (Elt F) fs) Finset.univ = fs
  rw [View.read_whole]
  exact View.write_whole_univ _ _ _
omit [FloatOps F] in
theorem landed_t (fd : (cc0_scratch6 : Ref sig .tc).ty.Contents (Elt F)) (fs : ConT F) :
    (stRecv : Memref sig .tc .vmem S2x8x8 .f32).view.write (Elt F) fd ((stSend : Memref sig .tc .vmem S2x8x8 .f32).view.read (Elt F) fs) Finset.univ = fs := by
  show (View.whole cc0_scratch6).write (Elt F) fd ((View.whole cc0_scratch5).read (Elt F) fs) Finset.univ = fs
  rw [View.read_whole]
  exact View.write_whole_univ _ _ _

/-- The transfer of the accumulators to the mate. -/
theorem send_o (n : Dev nD) (hn : n = mate c) {hsc : (oRecv : Memref sig (Dev.tc n : Thread nD τ).2.kind .vmem S8x8x128 .f32).view.ref.isScScratch = false}
    {hsrc : (oSend : Memref sig .tc .vmem S8x8x128 .f32).view.WordExact} {hdst : (oRecv : Memref sig .tc .vmem S8x8x128 .f32).view.WordExact}
    {hsem : DmaTarget.Typed .vmem (.dma rcvO.sem) (.remote (Dev.tc n : Thread nD τ) (oRecv : Memref sig .tc .vmem S8x8x128 .f32) (.dma sndO.sem) hsc)}
    {α : Type} {Q : α → sProp 𝕄} {k : PUnit → Prog (TpuEff nD τ sig (Elt F) Λ₀ .tc) α}
    (fn : Buf (Elt F) ((mate c : Thread nD τ).loc cc0_scratch4)) (W : Waits sig Unit) :
    iprop(cellInv ER (rd AO AT) (K (c, 1)) (kcell (c, 1)) ∗ cellInv ER (rd AO AT) (K (mate c, 3)) (kcell (mate c, 3))
        ∗ wholePts c cc0_scratch3 (AO c) ∗ wholePts (mate c) cc0_scratch4 fn
        ∗ owes (c : Thread nD τ) (O₁ c) W
        ∗ dutyTok ER (kcell (c, 1)) 0 () ∗ reached ER (kcell (c, 1)) 0
        ∗ dutyTok ER (kcell (mate c, 3)) 0 () ∗ reached ER (kcell (mate c, 3)) 0)
      ⊢ iprop(((cred (tallyAt (kcell (c, 1)) () NO) ∗ owes (c : Thread nD τ) (O₂ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma oSend (.remote (Dev.tc n : Thread nD τ) oRecv (.dma sndO.sem) hsc) (.dma rcvO.sem) hsrc hdst hsem) k) Q) := by
  subst hn
  have m₁ : () ∈ (rd AO AT).duties ((c : Thread nD τ), .dma sndO.sem) 0 := duty_mem AO AT c 1
  have m₂ : () ∈ (rd AO AT).duties ((mate c : Thread nD τ), .dma rcvO.sem) 0 := duty_mem AO AT (mate c) 3
  have a₁ : (rd AO AT).amount ((c : Thread nD τ), .dma sndO.sem) 0 () = NO := (amount_cell AO AT c 1 ()).trans units1
  have a₂ : (rd AO AT).amount ((mate c : Thread nD τ), .dma rcvO.sem) 0 () = NO := (amount_cell AO AT (mate c) 3 ()).trans units3
  have p₁ : (rd AO AT).payload ((c : Thread nD τ), .dma sndO.sem) 0 () = wholePts c cc0_scratch3 (AO c) := pay1 AO AT c
  have p₂ : (rd AO AT).payload ((mate c : Thread nD τ), .dma rcvO.sem) 0 () = wholePts (mate c) cc0_scratch4 (AO c) :=
    (pay3 AO AT (mate c)).trans (by rw [mate_mate])
  exact Rounds.wp_send_pointsTo 𝒱₀ ER (rd AO AT) (c : Thread nD τ) none (κ₁ := K (c, 1)) (κ₂ := K (mate c, 3))
    (c' := (mate c : Thread nD τ)) (src := oSend) (dst := oRecv) (sS := .dma sndO.sem) (sem := .dma rcvO.sem)
    (r₁ := 0) (r₂ := 0) (d₁ := ()) (d₂ := ()) (fd := fn) m₁ m₂
    () () NO rfl a₁ a₂ (O₂ c) rfl (W := W)
    (by rw [p₁]) (by rw [p₂, landed_o])

/-- The transfer of the maxima and sums to the mate. -/
theorem send_t (n : Dev nD) (hn : n = mate c) {hsc : (stRecv : Memref sig (Dev.tc n : Thread nD τ).2.kind .vmem S2x8x8 .f32).view.ref.isScScratch = false}
    {hsrc : (stSend : Memref sig .tc .vmem S2x8x8 .f32).view.WordExact} {hdst : (stRecv : Memref sig .tc .vmem S2x8x8 .f32).view.WordExact}
    {hsem : DmaTarget.Typed .vmem (.dma rcvT.sem) (.remote (Dev.tc n : Thread nD τ) (stRecv : Memref sig .tc .vmem S2x8x8 .f32) (.dma sndT.sem) hsc)}
    {α : Type} {Q : α → sProp 𝕄} {k : PUnit → Prog (TpuEff nD τ sig (Elt F) Λ₀ .tc) α}
    (fn : Buf (Elt F) ((mate c : Thread nD τ).loc cc0_scratch6)) (W : Waits sig Unit) :
    iprop(cellInv ER (rd AO AT) (K (c, 2)) (kcell (c, 2)) ∗ cellInv ER (rd AO AT) (K (mate c, 4)) (kcell (mate c, 4))
        ∗ wholePts c cc0_scratch5 (AT c) ∗ wholePts (mate c) cc0_scratch6 fn
        ∗ owes (c : Thread nD τ) (O₂ c) W
        ∗ dutyTok ER (kcell (c, 2)) 0 () ∗ reached ER (kcell (c, 2)) 0
        ∗ dutyTok ER (kcell (mate c, 4)) 0 () ∗ reached ER (kcell (mate c, 4)) 0)
      ⊢ iprop(((cred (tallyAt (kcell (c, 2)) () NT) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma stSend (.remote (Dev.tc n : Thread nD τ) stRecv (.dma sndT.sem) hsc) (.dma rcvT.sem) hsrc hdst hsem) k) Q) := by
  subst hn
  have m₁ : () ∈ (rd AO AT).duties ((c : Thread nD τ), .dma sndT.sem) 0 := duty_mem AO AT c 2
  have m₂ : () ∈ (rd AO AT).duties ((mate c : Thread nD τ), .dma rcvT.sem) 0 := duty_mem AO AT (mate c) 4
  have a₁ : (rd AO AT).amount ((c : Thread nD τ), .dma sndT.sem) 0 () = NT := (amount_cell AO AT c 2 ()).trans units2
  have a₂ : (rd AO AT).amount ((mate c : Thread nD τ), .dma rcvT.sem) 0 () = NT := (amount_cell AO AT (mate c) 4 ()).trans units4
  have p₁ : (rd AO AT).payload ((c : Thread nD τ), .dma sndT.sem) 0 () = wholePts c cc0_scratch5 (AT c) := pay2 AO AT c
  have p₂ : (rd AO AT).payload ((mate c : Thread nD τ), .dma rcvT.sem) 0 () = wholePts (mate c) cc0_scratch6 (AT c) :=
    (pay4 AO AT (mate c)).trans (by rw [mate_mate])
  exact Rounds.wp_send_pointsTo 𝒱₀ ER (rd AO AT) (c : Thread nD τ) none (κ₁ := K (c, 2)) (κ₂ := K (mate c, 4))
    (c' := (mate c : Thread nD τ)) (src := stSend) (dst := stRecv) (sS := .dma sndT.sem) (sem := .dma rcvT.sem)
    (r₁ := 0) (r₂ := 0) (d₁ := ()) (d₂ := ()) (fd := fn) m₁ m₂
    () () NT rfl a₁ a₂ 0 (zero_add _).symm (W := W)
    (by rw [p₁]) (by rw [p₂, landed_t])

/-- The signal to the mate: the own landing buffers go to the mate. -/
theorem signal_mate (n : Dev nD) (hn : n = mate c) {α : Type} {Q : α → sProp 𝕄} {k : PUnit → Prog (TpuEff nD τ sig (Elt F) Λ₀ .tc) α}
    (W : Waits sig Unit) :
    iprop(cellInv ER (rd AO AT) (K (mate c, 0)) (kcell (mate c, 0)) ∗ owes (c : Thread nD τ) (O₀ c) W
        ∗ dutyTok ER (kcell (mate c, 0)) 0 () ∗ barPay (mate c) ∗ reached ER (kcell (mate c, 0)) 0)
      ⊢ iprop((owes (c : Thread nD τ) (O₁ c) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n : Thread nD τ) barS 1) k) Q) := by
  subst hn
  rw [← pay0 AO AT (mate c)]
  exact Rounds.wp_signal 𝒱₀ ER (rd AO AT) (c : Thread nD τ) none (dst := (mate c : Thread nD τ)) (κ := K (mate c, 0))
      (d := ()) (duty_mem AO AT (mate c) 0) ((amount_cell AO AT (mate c) 0 ()).trans units0) () (O₁ c) rfl

theorem credit_o : (oSend : Memref sig .tc .vmem S8x8x128 .f32).view.dmaCredit = NO := by decide +kernel
theorem credit_t : (stSend : Memref sig .tc .vmem S2x8x8 .f32).view.dmaCredit = NT := by decide +kernel

/-- A wait on one of the four transfer cells, nothing owed: the cell's payload comes with it. -/
theorem wait_cell (k : Fin 5) (sem : DmaSem sig) (hs : csem k = .dma sem) {sp sp' : Space} {s s' : Shape} {e e' : EltTy}
    {src : Memref sig .tc sp' s' e'} {dst : Memref sig .tc sp s e} {hsrc : src.view.WordExact} {hdst : dst.view.WordExact}
    (N : ℕ) (hN : dst.view.dmaCredit = N) (hu : units (csem k) = N) {α : Type} {Q : α → sProp 𝕄}
    {kk : PUnit → Prog (TpuEff nD τ sig (Elt F) Λ₀ .tc) α} (W : Waits sig Unit) :
    iprop(cellInv ER (rd AO AT) (K (c, k)) (kcell (c, k)) ∗ cred (tallyAt (kcell (c, k)) () N) ∗ owes (c : Thread nD τ) 0 W
        ∗ atPos ER (kcell (c, k)) 0 ∅ 0)
      ⊢ iprop(((owes (c : Thread nD τ) 0 (insert (.dma sem, ()) W) ∗ atPos ER (kcell (c, k)) (0 + 1) ∅ 0 ∗ pay AO AT c (csem k))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) := by
  subst hN
  have hx : (0 : ℕ) + dst.view.dmaCredit = (rd AO AT).expect ((c : Thread nD τ), .dma sem) 0 := by
    rw [← hs]; exact (Nat.zero_add _).trans ((expect_cell AO AT c k).trans hu).symm
  have hr := rest_cell AO AT c k
  dsimp only [kcell] at hr ⊢
  rw [hs] at hr ⊢
  rw [← hr]
  iintro ⟨#Hi, Hc, HO, Hat⟩ Hk
  iapply (Rounds.wp_wait_rest_token 𝒱₀ ER (rd AO AT) (c : Thread nD τ) none (κ := K (c, k))
      (wpE_waitDma2_eq 𝒱₀ (c : Thread nD τ) none Set.univ) (Set.mem_univ _) () (O := 0) (W := W) (R := 0) (m := 0) (T := ∅) hx) $$ [Hc HO Hat]
  · isplitr; · iexact Hi
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iexact Hpay
end Ghost

end Cert.Paged

end
-- ==== Proof.Tail.lean ====
/-
  THE EXCHANGE AND THE RESULT: the partial results are stored and sent to the mate, the mate's arrive, and the two are joined.
-/
module

public import proofs.«01_k».proof.Proof.Ghost

@[expose] public section

noncomputable section

namespace Cert.Paged

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- The rest of the kernel, from the heads' states on. -/
def tail (c : Dev nD) (v5 v8 v9 : BitVec 32) (st : Fin 8 → Hd F) : Prog (TpuEff nD τ sig (Elt F) Λ₀ .tc) PUnit := do
  k0_part21 (F := F) qS (Memref.isWhole_whole _) kH (Memref.isWhole_whole _) vH (Memref.isWhole_whole _) bS (Memref.isWhole_whole _) lS (Memref.isWhole_whole _)
    outS (Memref.isWhole_whole _) kB (Memref.isWhole_whole _) vB (Memref.isWhole_whole _) wB (Memref.isWhole_whole _) oSend (Memref.isWhole_whole _)
    oRecv (Memref.isWhole_whole _) stSend (Memref.isWhole_whole _) stRecv (Memref.isWhole_whole _) cc0_scratch7 cc0_scratch8 cc0_scratch9 (st 0).1 (st 1).1 (st 2).1 (st 0).2.1 (st 1).2.1 (st 0).2.2 (st 1).2.2 (st 2).2.2
  k0_part22 (F := F) qS (Memref.isWhole_whole _) kH (Memref.isWhole_whole _) vH (Memref.isWhole_whole _) bS (Memref.isWhole_whole _) lS (Memref.isWhole_whole _)
    outS (Memref.isWhole_whole _) kB (Memref.isWhole_whole _) vB (Memref.isWhole_whole _) wB (Memref.isWhole_whole _) oSend (Memref.isWhole_whole _)
    oRecv (Memref.isWhole_whole _) stSend (Memref.isWhole_whole _) stRecv (Memref.isWhole_whole _) cc0_scratch7 cc0_scratch8 cc0_scratch9 (st 3).1 (st 4).1 (st 5).1 (st 2).2.1 (st 3).2.1 (st 4).2.1 (st 3).2.2 (st 4).2.2 (st 5).2.2
  let v281 ← k0_part23 (F := F) qS (Memref.isWhole_whole _) kH (Memref.isWhole_whole _) vH (Memref.isWhole_whole _) bS (Memref.isWhole_whole _) lS (Memref.isWhole_whole _)
    outS (Memref.isWhole_whole _) kB (Memref.isWhole_whole _) vB (Memref.isWhole_whole _) wB (Memref.isWhole_whole _) oSend (Memref.isWhole_whole _)
    oRecv (Memref.isWhole_whole _) stSend (Memref.isWhole_whole _) stRecv (Memref.isWhole_whole _) cc0_scratch7 cc0_scratch8 cc0_scratch9 c v5 v8 v9 (st 6).1 (st 7).1 (st 5).2.1 (st 6).2.1 (st 7).2.1 (st 6).2.2 (st 7).2.2
  k0_part24 (F := F) qS (Memref.isWhole_whole _) kH (Memref.isWhole_whole _) vH (Memref.isWhole_whole _) bS (Memref.isWhole_whole _) lS (Memref.isWhole_whole _)
    outS (Memref.isWhole_whole _) kB (Memref.isWhole_whole _) vB (Memref.isWhole_whole _) wB (Memref.isWhole_whole _) oSend (Memref.isWhole_whole _)
    oRecv (Memref.isWhole_whole _) stSend (Memref.isWhole_whole _) stRecv (Memref.isWhole_whole _) cc0_scratch7 cc0_scratch8 cc0_scratch9 c v5 v8 v9 v281
  k0_part25 (F := F) qS (Memref.isWhole_whole _) kH (Memref.isWhole_whole _) vH (Memref.isWhole_whole _) bS (Memref.isWhole_whole _) lS (Memref.isWhole_whole _)
    outS (Memref.isWhole_whole _) kB (Memref.isWhole_whole _) vB (Memref.isWhole_whole _) wB (Memref.isWhole_whole _) oSend (Memref.isWhole_whole _)
    oRecv (Memref.isWhole_whole _) stSend (Memref.isWhole_whole _) stRecv (Memref.isWhole_whole _) cc0_scratch7 cc0_scratch8 cc0_scratch9 v5 v8 v9 (st 0).1 (st 0).2.1 (st 0).2.2
  let x ← k0_part26 (F := F) qS (Memref.isWhole_whole _) kH (Memref.isWhole_whole _) vH (Memref.isWhole_whole _) bS (Memref.isWhole_whole _) lS (Memref.isWhole_whole _)
    outS (Memref.isWhole_whole _) kB (Memref.isWhole_whole _) vB (Memref.isWhole_whole _) wB (Memref.isWhole_whole _) oSend (Memref.isWhole_whole _)
    oRecv (Memref.isWhole_whole _) stSend (Memref.isWhole_whole _) stRecv (Memref.isWhole_whole _) cc0_scratch7 cc0_scratch8 cc0_scratch9 (st 1).1 (st 2).1 (st 1).2.1 (st 2).2.1 (st 1).2.2 (st 2).2.2
  let y ← k0_part27 (F := F) qS (Memref.isWhole_whole _) kH (Memref.isWhole_whole _) vH (Memref.isWhole_whole _) bS (Memref.isWhole_whole _) lS (Memref.isWhole_whole _)
    outS (Memref.isWhole_whole _) kB (Memref.isWhole_whole _) vB (Memref.isWhole_whole _) wB (Memref.isWhole_whole _) oSend (Memref.isWhole_whole _)
    oRecv (Memref.isWhole_whole _) stSend (Memref.isWhole_whole _) stRecv (Memref.isWhole_whole _) cc0_scratch7 cc0_scratch8 cc0_scratch9 (st 3).1 (st 3).2.1 (st 3).2.2 x.fst x.2.fst x.2.2.fst x.2.2.snd
  let z ← k0_part28 (F := F) qS (Memref.isWhole_whole _) kH (Memref.isWhole_whole _) vH (Memref.isWhole_whole _) bS (Memref.isWhole_whole _) lS (Memref.isWhole_whole _)
    outS (Memref.isWhole_whole _) kB (Memref.isWhole_whole _) vB (Memref.isWhole_whole _) wB (Memref.isWhole_whole _) oSend (Memref.isWhole_whole _)
    oRecv (Memref.isWhole_whole _) stSend (Memref.isWhole_whole _) stRecv (Memref.isWhole_whole _) cc0_scratch7 cc0_scratch8 cc0_scratch9 (st 4).1 (st 5).1 (st 4).2.1 (st 5).2.1 (st 4).2.2 (st 5).2.2 y.fst y.snd
  let w ← k0_part29 (F := F) qS (Memref.isWhole_whole _) kH (Memref.isWhole_whole _) vH (Memref.isWhole_whole _) bS (Memref.isWhole_whole _) lS (Memref.isWhole_whole _)
    outS (Memref.isWhole_whole _) kB (Memref.isWhole_whole _) vB (Memref.isWhole_whole _) wB (Memref.isWhole_whole _) oSend (Memref.isWhole_whole _)
    oRecv (Memref.isWhole_whole _) stSend (Memref.isWhole_whole _) stRecv (Memref.isWhole_whole _) cc0_scratch7 cc0_scratch8 cc0_scratch9 (st 6).1 (st 6).2.1 (st 6).2.2 z
  let _ ← Prog.lift (.load outS (Rect.unit (s := S8x1x8x128) ![0, 0, 7, 0] S8x1x1x128.size inb_S8x1x8x128_S8x1x1x128_0_0_7_0).toLoadRect
    (View.loadsAt_vmem h_S8x1x1x128))
  Prog.lift (.store outS (Rect.unit (s := S8x1x8x128) ![0, 0, 7, 0] S8x1x1x128.size inb_S8x1x8x128_S8x1x1x128_0_0_7_0)
    (k0_pay1 (st 7).1 (st 7).2.1 (st 7).2.2 w.fst w.2.fst w.2.snd) Finset.univ (View.stores_vmem_bits_univ h_S8x1x1x128 rfl) (.inl rfl))
  pure ⟨⟩

section Tail
variable (AO : Dev nD → ConO F) (AT : Dev nD → ConT F) (K : Dev nD × Fin 5 → ℕ) (c : Dev nD) (st : Fin 8 → Hd F)

/-- What the rest leaves: the result, every buffer of the exchange, the five cells at zero, and no debt. -/
def tailPost : sProp 𝕄 :=
  iprop(wholePts c cc0_stg3_0 (outAll st (AO (mate c)) (AT (mate c)))
    ∗ ((∃ f, wholePts c cc0_scratch3 f) ∗ (∃ f, wholePts c cc0_scratch4 f) ∗ (∃ f, wholePts c cc0_scratch5 f) ∗ (∃ f, wholePts c cc0_scratch6 f))
    ∗ (semVal (kcell (c, 0)) 0 ∗ semVal (kcell (c, 1)) 0 ∗ semVal (kcell (c, 2)) 0 ∗ semVal (kcell (c, 3)) 0 ∗ semVal (kcell (c, 4)) 0)
    ∗ (∃ W, owes (c : Thread nD τ) 0 W))

set_option maxHeartbeats 4000000 in
set_option maxRecDepth 8000 in
set_option backward.proofsInPublic true in
theorem tail_run (v5 v8 v9 : BitVec 32) (hO : AO c = oAll st) (hT : AT c = tAll st) (W : Waits sig Unit) (Kt : PUnit → sProp 𝕄) :
   iprop((levAts L lv ∗ ghost AO AT K c ∗ creds c ∗ owes (c : Thread nD τ) (O₀ c) W
      ∗ (∃ f, wholePts c cc0_stg3_0 f)
      ∗ (∃ f, wholePts c cc0_scratch3 f) ∗ (∃ f, wholePts c cc0_scratch4 f) ∗ (∃ f, wholePts c cc0_scratch5 f) ∗ (∃ f, wholePts c cc0_scratch6 f))
      ∗ (tailPost AO AT c st -∗ Kt ⟨⟩))
   ⊢ wp frame (wpE (defs₀ (F := F)) 𝒱₀ (c : Thread nD τ) none) Set.univ (tail c v5 v8 v9 st) Kt := by
  unfold ghost invs creds
  iintro ⟨⟨#Hlev, ⟨⟨#I0, #I1, #I2, #I3, #I4, #J0, #J3, #J4⟩, ⟨At0, At1, At2, At3, At4⟩, ⟨#R0, #R1, #R2, #R3, #R4⟩, T0, T1, T2, T3, T4⟩, ⟨Cb, Co, Ct⟩, HO,
    ⟨%fr, Hr⟩, ⟨%f3, H3⟩, ⟨%f4, H4⟩, ⟨%f5, H5⟩, ⟨%f6, H6⟩⟩, Hk⟩
  unfold tail
  set_option sl_exec.stopBefore "k0_part24" in sl_exec
  have hw3 := writes_o st f3
  rw [show oRow (st 7) = tail_run.sl.v274 st from rfl, show oRow (st 6) = tail_run.sl.v265 st from rfl, show oRow (st 5) = tail_run.sl.v256 st from rfl, show oRow (st 4) = tail_run.sl.v247 st from rfl, show oRow (st 3) = tail_run.sl.v238 st from rfl, show oRow (st 2) = tail_run.sl.v229 st from rfl, show oRow (st 1) = tail_run.sl.v220 st from rfl, show oRow (st 0) = tail_run.sl.v211 st from rfl] at hw3
  have hw5 := writes_t st f5
  rw [show tRow (st 7) 1 = tail_run.sl.v280 st from rfl,
    show tRow (st 7) 0 = tail_run.sl.v277 st from rfl,
    show tRow (st 6) 1 = tail_run.sl.v271 st from rfl,
    show tRow (st 6) 0 = tail_run.sl.v268 st from rfl,
    show tRow (st 5) 1 = tail_run.sl.v262 st from rfl,
    show tRow (st 5) 0 = tail_run.sl.v259 st from rfl,
    show tRow (st 4) 1 = tail_run.sl.v253 st from rfl,
    show tRow (st 4) 0 = tail_run.sl.v250 st from rfl,
    show tRow (st 3) 1 = tail_run.sl.v244 st from rfl,
    show tRow (st 3) 0 = tail_run.sl.v241 st from rfl,
    show tRow (st 2) 1 = tail_run.sl.v235 st from rfl,
    show tRow (st 2) 0 = tail_run.sl.v232 st from rfl,
    show tRow (st 1) 1 = tail_run.sl.v226 st from rfl,
    show tRow (st 1) 0 = tail_run.sl.v223 st from rfl,
    show tRow (st 0) 1 = tail_run.sl.v217 st from rfl,
    show tRow (st 0) 0 = tail_run.sl.v214 st from rfl] at hw5
  ihave H3 := (Entails.of_eq (congrArg (wholePts c cc0_scratch3) (hw3.trans hO.symm))) $$ H3
  ihave H5 := (Entails.of_eq (congrArg (wholePts c cc0_scratch5) (hw5.trans hT.symm))) $$ H5
  iapply (signal_mate AO AT K c _ (dev1_eq c) W) $$ [HO T0 H4 H6]
  · isplitr; · iexact J0
    isplitl [HO]; · iexact HO
    isplitl [T0]; · iexact T0
    isplitl [H4 H6]
    · unfold barPay
      irw [mate_mate]
      isplitl [H4]; · iexists f4; iexact H4
      isplitl [H6]; · iexists f6; iexact H6
      isplitr; · iexact R3
      iexact R4
    iexact R0
  iintro HO
  irw [wp_ret]; imodintro; irw [Prog.pure_eq_ret, wp_ret]; imodintro
  irw [k0_part24_eq_skeleton, k0_part25_eq_skeleton]
  unfold k0_part24_skel k0_part25_skel
  simp only [semWaitWord, Prog.lift, Prog.bind_op, Prog.bind_ret, Prog.pure_eq_ret]
  iapply (Rounds.wp_wait_rest_token 𝒱₀ ER (rd AO AT) (c : Thread nD τ) none (κ := K (c, 0))
      (wpE_semWait_eq 𝒱₀ (c : Thread nD τ) none Set.univ) (Set.mem_univ _) () (O := O₁ c) (W := W) (R := 0) (m := 0) (T := ∅)
      ((Nat.zero_add 1).trans ((expect_cell AO AT c 0).trans units0).symm)) $$ [Cb HO At0]
  · isplitr; · iexact I0
    isplitl [Cb]; · iexact Cb
    isplitl [HO]; · iexact HO
    isplitr; · iapply (mayWait_bar c); iexact Hlev
    iexact At0
  iintro ⟨HO, At0, -, Hpay⟩
  ihave Hp := (Entails.of_eq ((rest_cell AO AT c 0).trans (pay0 AO AT c))) $$ Hpay
  unfold barPay
  icases Hp with ⟨⟨%g4, G4⟩, ⟨%g6, G6⟩, #N3, #N4⟩
  iapply (send_o AO AT K c _ (dev2_eq c) g4 (insert (SemLoc.reg barS, ()) W)) $$ [H3 G4 HO T1 T3]
  · isplitr; · iexact I1
    isplitr; · iexact J3
    isplitl [H3]; · iexact H3
    isplitl [G4]; · iexact G4
    isplitl [HO]; · iexact HO
    isplitl [T1]; · iexact T1
    isplitr; · iexact R1
    isplitl [T3]; · iexact T3
    iexact N3
  iintro ⟨Cs, HO⟩
  iapply (send_t AO AT K c _ (dev3_eq c) g6 (insert (SemLoc.reg barS, ()) W)) $$ [H5 G6 HO T2 T4]
  · isplitr; · iexact I2
    isplitr; · iexact J4
    isplitl [H5]; · iexact H5
    isplitl [G6]; · iexact G6
    isplitl [HO]; · iexact HO
    isplitl [T2]; · iexact T2
    isplitr; · iexact R2
    isplitl [T4]; · iexact T4
    iexact N4
  iintro ⟨Cu, HO⟩
  iapply (wait_cell AO AT K c 1 sndO.sem rfl (N := NO) credit_o units1 _) $$ [Cs HO At1]
  · isplitr; · iexact I1
    isplitl [Cs]; · iexact Cs
    isplitl [HO]; · iexact HO
    iexact At1
  iintro ⟨HO, At1, Hpay⟩
  ihave H3 := (Entails.of_eq (pay1 AO AT c)) $$ Hpay
  iapply (wait_cell AO AT K c 3 rcvO.sem rfl (N := NO) rfl units3 _) $$ [Co HO At3]
  · isplitr; · iexact I3
    isplitl [Co]; · iexact Co
    isplitl [HO]; · iexact HO
    iexact At3
  iintro ⟨HO, At3, Hpay⟩
  ihave H4 := (Entails.of_eq (pay3 AO AT c)) $$ Hpay
  iapply (wait_cell AO AT K c 2 sndT.sem rfl (N := NT) credit_t units2 _) $$ [Cu HO At2]
  · isplitr; · iexact I2
    isplitl [Cu]; · iexact Cu
    isplitl [HO]; · iexact HO
    iexact At2
  iintro ⟨HO, At2, Hpay⟩
  ihave H5 := (Entails.of_eq (pay2 AO AT c)) $$ Hpay
  iapply (wait_cell AO AT K c 4 rcvT.sem rfl (N := NT) rfl units4 _) $$ [Ct HO At4]
  · isplitr; · iexact I4
    isplitl [Ct]; · iexact Ct
    isplitl [HO]; · iexact HO
    iexact At4
  iintro ⟨HO, At4, Hpay⟩
  ihave H6 := (Entails.of_eq (pay4 AO AT c)) $$ Hpay
  imod (Rounds.cell_close ER (rd AO AT) (Set.mem_univ (K (c, 0))) (fun h => h) (R := 0 + 1) (duties_later AO AT (kcell (c, 0)))) $$ [At0] with Z0
  · isplitr; · iexact I0
    iexact At0
  imod (Rounds.cell_close ER (rd AO AT) (Set.mem_univ (K (c, 1))) (fun h => h) (R := 0 + 1) (duties_later AO AT (kcell (c, 1)))) $$ [At1] with Z1
  · isplitr; · iexact I1
    iexact At1
  imod (Rounds.cell_close ER (rd AO AT) (Set.mem_univ (K (c, 2))) (fun h => h) (R := 0 + 1) (duties_later AO AT (kcell (c, 2)))) $$ [At2] with Z2
  · isplitr; · iexact I2
    iexact At2
  imod (Rounds.cell_close ER (rd AO AT) (Set.mem_univ (K (c, 3))) (fun h => h) (R := 0 + 1) (duties_later AO AT (kcell (c, 3)))) $$ [At3] with Z3
  · isplitr; · iexact I3
    iexact At3
  imod (Rounds.cell_close ER (rd AO AT) (Set.mem_univ (K (c, 4))) (fun h => h) (R := 0 + 1) (duties_later AO AT (kcell (c, 4)))) $$ [At4] with Z4
  · isplitr; · iexact I4
    iexact At4
  sl_exec
  have hwr := writes_out st (AO (mate c)) (AT (mate c)) fr
  rw [show outHd st (AO (mate c)) (AT (mate c)) 7 = k0_pay1 (st 7).1 (st 7).2.1 (st 7).2.2 (tail_run.sl.r_7 AT c) (tail_run.sl.r_8 AT c) (tail_run.sl.r_9 AO c) from rfl,
    show outHd st (AO (mate c)) (AT (mate c)) 6 = k0_pay198 (st 6).1 (st 6).2.1 (st 6).2.2 (tIn (AT (mate c)) 0 6) (tIn (AT (mate c)) 1 6) (oIn (AO (mate c)) 6) from rfl,
    show outHd st (AO (mate c)) (AT (mate c)) 5 = k0_pay197 (tail_run.sl.r_6 AO AT c st) from rfl,
    show outHd st (AO (mate c)) (AT (mate c)) 4 = k0_pay195 (st 4).1 (st 4).2.1 (st 4).2.2 (tail_run.sl.r_4 AT c) (tail_run.sl.r_5 AT c) (oIn (AO (mate c)) 4) from rfl,
    show outHd st (AO (mate c)) (AT (mate c)) 3 = k0_pay193 (st 3).1 (st 3).2.1 (st 3).2.2 (tIn (AT (mate c)) 0 3) (tIn (AT (mate c)) 1 3) (oIn (AO (mate c)) 3) from rfl,
    show outHd st (AO (mate c)) (AT (mate c)) 2 = k0_pay192 (tail_run.sl.r AO c) (tail_run.sl.r_1 AT c st) (tail_run.sl.r_2 AT c st) (tail_run.sl.r_3 AT c st) from rfl,
    show outHd st (AO (mate c)) (AT (mate c)) 1 = k0_pay184 (st 1).1 (st 1).2.1 (st 1).2.2 (tIn (AT (mate c)) 0 1) (tIn (AT (mate c)) 1 1) (oIn (AO (mate c)) 1) from rfl,
    show outHd st (AO (mate c)) (AT (mate c)) 0 = k0_pay183 (st 0).1 (st 0).2.1 (st 0).2.2 (tIn (AT (mate c)) 0 0) (tIn (AT (mate c)) 1 0) (oIn (AO (mate c)) 0) from rfl] at hwr
  irw [wp_ret]; imodintro
  iapply Hk
  unfold tailPost
  isplitl [Hr]; · irw [← hwr]; iexact Hr
  isplitl [H3 H4 H5 H6]
  · isplitl [H3]; · iexists AO c; iexact H3
    isplitl [H4]; · iexists AO (mate c); iexact H4
    isplitl [H5]; · iexists AT c; iexact H5
    iexists AT (mate c); iexact H6
  isplitl [Z0 Z1 Z2 Z3 Z4]
  · isplitl [Z0]; · iexact Z0
    isplitl [Z1]; · iexact Z1
    isplitl [Z2]; · iexact Z2
    isplitl [Z3]; · iexact Z3
    iexact Z4
  iexists _; iexact HO
end Tail

end Cert.Paged

end
-- ==== Proof.Body.lean ====
/-
  THE KERNEL ON ONE DEVICE: the weights, the loop over the chunks, and the exchange.
-/
module

public import proofs.«01_k».proof.Proof.Tail

@[expose] public section

noncomputable section

namespace Cert.Paged

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- The kernel at its staging buffers. -/
abbrev theBody : Prog (TpuEff nD τ sig (Elt F) Λ₀ .tc) PUnit :=
  cc0_body (F := F) qS (Memref.isWhole_whole _) kH (Memref.isWhole_whole _) vH (Memref.isWhole_whole _)
   bS (Memref.isWhole_whole _) lS (Memref.isWhole_whole _) outS (Memref.isWhole_whole _)
   kB (Memref.isWhole_whole _) vB (Memref.isWhole_whole _) wB (Memref.isWhole_whole _) oSend (Memref.isWhole_whole _) oRecv (Memref.isWhole_whole _)
   stSend (Memref.isWhole_whole _) stRecv (Memref.isWhole_whole _) cc0_scratch7 cc0_scratch8 cc0_scratch9

section Body
variable (c : Dev nD) (XQ : ConQ F) (XK XV : ConPg F) (XB : ConB F) (XL : ConL F)

omit [FloatOps F] in
theorem homes_first : bigSep (Finset.range 4) (homes c XK XV)
    = iprop((homeK c XK (ev 0) ∗ homeK c XK (od 0) ∗ homeV c XV (ev 0) ∗ homeV c XV (od 0)) ∗ restHomes c XK XV 0) :=
  BI.bigSep_erase (Φ := homes c XK XV) (s := Finset.range 4) (i := 0) (by decide)

omit [FloatOps F] in
theorem restHomes_4 : restHomes c XK XV 4 = bigSep (Finset.range 4) (homes c XK XV) := by
  show bigSep ((Finset.range 4).erase 4) (homes c XK XV) = _
  rw [Finset.erase_eq_of_notMem (by decide)]

variable (AO : Dev nD → ConO F) (AT : Dev nD → ConT F) (K : Dev nD × Fin 5 → ℕ)

/-- What the kernel leaves: its operands, its buffers, and what the exchange leaves. -/
def bodyPost (st : Fin 8 → Hd F) : sProp 𝕄 :=
  iprop((wholePts c cc0_stg0_0 XQ ∗ wholePts c cc0_stg1_0 XB ∗ wholePts c cc0_stg2_0 XL ∗ (∃ f, wholePts c cc0_scratch2 f))
    ∗ bigSep (Finset.range 4) (homes c XK XV) ∗ idle c ∗ tailPost AO AT c st)

set_option maxRecDepth 8000 in
set_option maxHeartbeats 1000000 in
set_option backward.proofsInPublic true in
/-- The kernel on device `c`: it leaves the joined result. -/
theorem body_run (hO : AO c = oAll (stAt XQ XK XV (wAt c XB XL) 4)) (hT : AT c = tAll (stAt XQ XK XV (wAt c XB XL) 4)) (Kt : PUnit → sProp 𝕄) :
   iprop((levAts L lv ∗ (wholePts c cc0_stg0_0 XQ ∗ wholePts c cc0_stg1_0 XB ∗ wholePts c cc0_stg2_0 XL ∗ (∃ f, wholePts c cc0_stg3_0 f))
      ∗ ((∃ f, wholePts c cc0_scratch2 f) ∗ (∃ f, wholePts c cc0_scratch3 f) ∗ (∃ f, wholePts c cc0_scratch4 f) ∗ (∃ f, wholePts c cc0_scratch5 f)
          ∗ (∃ f, wholePts c cc0_scratch6 f))
      ∗ bigSep (Finset.range 4) (homes c XK XV) ∗ idle c ∗ ghost AO AT K c ∗ creds c ∗ (∃ W, owes (c : Thread nD τ) (O₀ c) W))
      ∗ (bodyPost c XQ XK XV XB XL AO AT (stAt XQ XK XV (wAt c XB XL) 4) -∗ Kt ⟨⟩))
   ⊢ wp frame (wpE (defs₀ (F := F)) 𝒱₀ (c : Thread nD τ) none) Set.univ (theBody (F := F)) Kt := by
  iintro ⟨⟨#Hlev, ⟨HQ, HB, HL, HR3⟩, ⟨⟨%f2, Hw⟩, H3, H4, H5, H6⟩, HH, ⟨⟨%fk0, HK0⟩, ⟨%fv0, HV0⟩, ⟨%fk1, HK1⟩, ⟨%fv1, HV1⟩, C0, C1, C2, C3⟩, Hg, Hc, ⟨%W, HO⟩⟩, Hk⟩
  ihave HH' := (Entails.of_eq (homes_first c XK XV)) $$ HH
  icases HH' with ⟨⟨HhKe, HhKo, HhVe, HhVo⟩, HR⟩
  dsimp only [theBody]
  sl_unfold [cc0_body]
  set_option sl_exec.stopBefore "k0_part20" in sl_exec
  have e31 : body_run.sl.v31 XB = tabV XB := rfl
  have e34 : body_run.sl.v34 XL = maskV (F := F) XL := rfl
  have w0 : k0_pay121 (body_run.sl.v31 XB) (body_run.sl.v34 XL) (body_run.sl.v39 c) = wRow c XB XL 0 := by rw [e31, e34]; rfl
  have w1 : k0_pay122 (F := F) (body_run.sl.v2 c) (body_run.sl.v31 XB) (body_run.sl.v34 XL) = wRow c XB XL 1 := by rw [e31, e34]; rfl
  have w2 : k0_pay124 (body_run.sl.r_8 c XB XL) = wRow c XB XL 2 := by unfold body_run.sl.r_8; rw [e31, e34]; rfl
  have w3 : k0_pay125 (F := F) (body_run.sl.v2 c) (body_run.sl.v31 XB) (body_run.sl.v34 XL) = wRow c XB XL 3 := by rw [e31, e34]; rfl
  have w4 : k0_pay126 (F := F) (body_run.sl.v2 c) (body_run.sl.v31 XB) (body_run.sl.v34 XL) = wRow c XB XL 4 := by rw [e31, e34]; rfl
  have w5 : k0_pay128 (body_run.sl.r_9 c XB XL) = wRow c XB XL 5 := by unfold body_run.sl.r_9; rw [e31, e34]; rfl
  have w6 : k0_pay129 (F := F) (body_run.sl.v2 c) (body_run.sl.v31 XB) (body_run.sl.v34 XL) = wRow c XB XL 6 := by rw [e31, e34]; rfl
  have w7 : k0_pay130 (F := F) (body_run.sl.v2 c) (body_run.sl.v31 XB) (body_run.sl.v34 XL) = wRow c XB XL 7 := by rw [e31, e34]; rfl
  have hW := writes_w c XB XL f2
  rw [← w0, ← w1, ← w2, ← w3, ← w4, ← w5, ← w6, ← w7] at hW
  ihave Hw := (Entails.of_eq (congrArg (wholePts c cc0_scratch2) hW)) $$ Hw
  sl_unfold [k0_part20]
  sl_exec
  iapply (Scf.wp_for_bind frame (wpE (defs₀ (F := F)) 𝒱₀ (c : Thread nD τ) none) Set.univ
    k0_t1_loop.lb k0_t1_loop.ub k0_t1_loop.st k0_t1_ok _ _ (loopInv c XQ XK XV (wAt c XB XL)) (fun k acc => loop_step c XQ XK XV (wAt c XB XL) k acc)) $$ [HQ Hw HO HR C0 C1 C2 C3]
  · unfold loopInv
    isplitr; · ipureintro; rfl
    isplitr; · iexact Hlev
    isplitl [HQ Hw HO]
    · isplitl [HQ]; · iexact HQ
      isplitl [Hw]; · iexact Hw
      iexists _; iexact HO
    isplitl [HR]; · iexact HR
    irw [slotsAt_lt c XK XV (show 0 < 4 by decide)]
    isplitl [C0]; · irw [flyK_issued c XK fk0 0]; iexact C0
    isplitl [C1]; · irw [flyV_issued c XV fv0 0]; iexact C1
    isplitl [C2]; · irw [flyK_issued c XK fk1 1]; iexact C2
    irw [flyV_issued c XV fv1 1]; iexact C3
  iintro %acc Hinv
  simp only [show Scf.trips k0_t1_loop.lb k0_t1_loop.ub k0_t1_loop.st = 4 from trips_eq]
  unfold loopInv
  icases Hinv with ⟨%hacc, -, ⟨HQ, Hw, ⟨%W1, HO⟩⟩, HR, HS⟩
  subst hacc
  generalize hst : stAt XQ XK XV (wAt c XB XL) 4 = st at hO hT
  dsimp only [toCar]
  irw [Prog.pure_eq_ret, wp_ret]
  imodintro
  dsimp only
  iapply (tail_run AO AT K c st (body_run.sl.v5 c) (body_run.sl.v8 c) (body_run.sl.v9 c) hO hT W1 Kt)
  isplitl [Hg Hc HO HR3 H3 H4 H5 H6]
  · isplitr; · iexact Hlev
    isplitl [Hg]; · iexact Hg
    isplitl [Hc]; · iexact Hc
    isplitl [HO]; · iexact HO
    isplitl [HR3]; · iexact HR3
    isplitl [H3]; · iexact H3
    isplitl [H4]; · iexact H4
    isplitl [H5]; · iexact H5
    iexact H6
  iintro HT
  iapply Hk
  unfold bodyPost
  isplitl [HQ HB HL Hw]
  · isplitl [HQ]; · iexact HQ
    isplitl [HB]; · iexact HB
    isplitl [HL]; · iexact HL
    iexists _; iexact Hw
  isplitl [HR]
  · irw [← restHomes_4 c XK XV]; iexact HR
  isplitl [HS]
  · irw [← slotsAt_4 c XK XV]; iexact HS
  iexact HT
end Body

end Cert.Paged

end
-- ==== Proof.Splits.lean ====
/-
  HOW THE BUFFERS DIVIDE: an array of pages into its eight chunks, a page buffer into its two slots, and back.
-/
module

public import proofs.«01_k».proof.Proof.Body

@[expose] public section

noncomputable section

namespace Cert.Paged

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section Sets

/-- The elements of chunk `b` of an array of pages, and those of slot `s` of a page buffer. -/
abbrev CS (b : Fin 8) : Finset S512x16x8x128.Idx := (Rect.unit (s := S512x16x8x128) (chunkOff b) S64x16x8x128.size (chunkOff_inb b)).set
abbrev SS (s : Fin 2) : Finset S2x64x16x8x128.Idx := (Rect.unit (s := S2x64x16x8x128) (slotOff s) S1x64x16x8x128.size (slotOff_inb s)).set

theorem mem_CS (b : Fin 8) (y : S512x16x8x128.Idx) : y ∈ CS b ↔ (y 0).val / 64 = b.val := by
  rw [Rect.mem_set_unit]
  have h1 : (y 1).val < 16 := (y 1).isLt
  have h2 : (y 2).val < 8 := (y 2).isLt
  have h3 : (y 3).val < 128 := (y 3).isLt
  constructor
  · intro H
    have a0 : 64 * b.val ≤ (y 0).val ∧ (y 0).val < 64 * b.val + 64 := H 0
    omega
  · intro H i; fin_cases i
    · show 64 * b.val ≤ (y 0).val ∧ (y 0).val < 64 * b.val + 64; omega
    · show 0 ≤ (y 1).val ∧ (y 1).val < 0 + 16; omega
    · show 0 ≤ (y 2).val ∧ (y 2).val < 0 + 8; omega
    · show 0 ≤ (y 3).val ∧ (y 3).val < 0 + 128; omega
theorem mem_SS (s : Fin 2) (y : S2x64x16x8x128.Idx) : y ∈ SS s ↔ (y 0).val = s.val := by
  rw [Rect.mem_set_unit]
  have h1 : (y 1).val < 64 := (y 1).isLt
  have h2 : (y 2).val < 16 := (y 2).isLt
  have h3 : (y 3).val < 8 := (y 3).isLt
  have h4 : (y 4).val < 128 := (y 4).isLt
  constructor
  · intro H
    have a0 : s.val ≤ (y 0).val ∧ (y 0).val < s.val + 1 := H 0
    omega
  · intro H i; fin_cases i
    · show s.val ≤ (y 0).val ∧ (y 0).val < s.val + 1; omega
    · show 0 ≤ (y 1).val ∧ (y 1).val < 0 + 64; omega
    · show 0 ≤ (y 2).val ∧ (y 2).val < 0 + 16; omega
    · show 0 ≤ (y 3).val ∧ (y 3).val < 0 + 8; omega
    · show 0 ≤ (y 4).val ∧ (y 4).val < 0 + 128; omega

theorem CS_disjoint : ∀ b b' : Fin 8, b ≠ b' → Disjoint (CS b) (CS b') := by
  intro b b' hne
  refine Finset.disjoint_left.mpr fun y hy hy' => ?_
  exact hne (Fin.ext (((mem_CS b y).mp hy).symm.trans ((mem_CS b' y).mp hy')))
theorem CS_cover : (Finset.univ : Finset (Fin 8)).biUnion CS = Finset.univ := by
  refine Finset.eq_univ_iff_forall.mpr fun y => Finset.mem_biUnion.mpr ?_
  have h0 : (y 0).val < 512 := (y 0).isLt
  exact ⟨⟨(y 0).val / 64, by omega⟩, Finset.mem_univ _, (mem_CS _ y).mpr rfl⟩
theorem SS_disjoint : ∀ s s' : Fin 2, s ≠ s' → Disjoint (SS s) (SS s') := by
  intro s s' hne
  refine Finset.disjoint_left.mpr fun y hy hy' => ?_
  exact hne (Fin.ext (((mem_SS s y).mp hy).symm.trans ((mem_SS s' y).mp hy')))
theorem SS_cover : (Finset.univ : Finset (Fin 2)).biUnion SS = Finset.univ := by
  refine Finset.eq_univ_iff_forall.mpr fun y => Finset.mem_biUnion.mpr ?_
  have h0 : (y 0).val < 2 := (y 0).isLt
  exact ⟨⟨(y 0).val, h0⟩, Finset.mem_univ _, (mem_SS _ y).mpr rfl⟩

theorem chunkK_set (b : Fin 8) : (chunkOf kH b).view.set = CS b := View.set_slice_whole _ _
theorem chunkV_set (b : Fin 8) : (chunkOf vH b).view.set = CS b := View.set_slice_whole _ _
theorem slotK_set (s : Fin 2) : (slotOf kB s).view.set = SS s := (View.set_reshape _ _).trans (View.set_slice_whole _ _)
theorem slotV_set (s : Fin 2) : (slotOf vB s).view.set = SS s := (View.set_reshape _ _).trans (View.set_slice_whole _ _)

end Sets

section Split
variable (c : Dev nD)

omit [FloatOps F] in
theorem bigSep_two (Φ : Fin 2 → sProp 𝕄) : bigSep Finset.univ Φ = iprop(Φ 0 ∗ Φ 1) :=
  bigSep_univ_eq_bigSepL [0, 1] (by decide) (by decide) Φ
omit [FloatOps F] in
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_range4 (Φ : ℕ → sProp 𝕄) : bigSep (Finset.range 4) Φ = iprop(Φ 0 ∗ Φ 1 ∗ Φ 2 ∗ Φ 3) :=
  bigSep_eq_bigSepL_of_eq [0, 1, 2, 3] (by decide) (by decide) Φ

omit [FloatOps F] in
/-- An array of pages is its eight chunks. -/
theorem pagesK (X : ConPg F) : (((c : Thread nD τ).loc main_arg1) ↦{fullShare} X : sProp 𝕄) = bigSep Finset.univ (homeK c X) := by
  rw [Ring.pointsTo_blocks (ℓ := (c : Thread nD τ).loc main_arg1) CS CS_disjoint CS_cover]
  exact bigSep_congr fun b _ => by rw [← chunkK_set]; rfl
omit [FloatOps F] in
theorem pagesV (X : ConPg F) : (((c : Thread nD τ).loc main_arg2) ↦{fullShare} X : sProp 𝕄) = bigSep Finset.univ (homeV c X) := by
  rw [Ring.pointsTo_blocks (ℓ := (c : Thread nD τ).loc main_arg2) CS CS_disjoint CS_cover]
  exact bigSep_congr fun b _ => by rw [← chunkV_set]; rfl

omit [FloatOps F] in
/-- The homes of both arrays, trip by trip, are the two arrays, and back. -/
theorem homes_of (XK XV : ConPg F) :
    iprop((((c : Thread nD τ).loc main_arg1) ↦{fullShare} XK) ∗ (((c : Thread nD τ).loc main_arg2) ↦{fullShare} XV))
      ⊢ (bigSep (Finset.range 4) (homes c XK XV) : sProp 𝕄) := by
  rw [pagesK, pagesV, bigSep_eight, bigSep_eight, bigSep_range4]
  iintro ⟨⟨K0, K1, K2, K3, K4, K5, K6, K7⟩, ⟨V0, V1, V2, V3, V4, V5, V6, V7⟩⟩
  isplitl [K0 K1 V0 V1]
  · isplitl [K0]; · iexact K0
    isplitl [K1]; · iexact K1
    isplitl [V0]; · iexact V0
    iexact V1
  isplitl [K2 K3 V2 V3]
  · isplitl [K2]; · iexact K2
    isplitl [K3]; · iexact K3
    isplitl [V2]; · iexact V2
    iexact V3
  isplitl [K4 K5 V4 V5]
  · isplitl [K4]; · iexact K4
    isplitl [K5]; · iexact K5
    isplitl [V4]; · iexact V4
    iexact V5
  isplitl [K6]; · iexact K6
  isplitl [K7]; · iexact K7
  isplitl [V6]; · iexact V6
  iexact V7
omit [FloatOps F] in
theorem of_homes (XK XV : ConPg F) :
    (bigSep (Finset.range 4) (homes c XK XV) : sProp 𝕄)
      ⊢ iprop((((c : Thread nD τ).loc main_arg1) ↦{fullShare} XK) ∗ (((c : Thread nD τ).loc main_arg2) ↦{fullShare} XV)) := by
  rw [pagesK, pagesV, bigSep_eight, bigSep_eight, bigSep_range4]
  show iprop((homeK c XK 0 ∗ homeK c XK 1 ∗ homeV c XV 0 ∗ homeV c XV 1) ∗ (homeK c XK 2 ∗ homeK c XK 3 ∗ homeV c XV 2 ∗ homeV c XV 3)
    ∗ (homeK c XK 4 ∗ homeK c XK 5 ∗ homeV c XV 4 ∗ homeV c XV 5) ∗ (homeK c XK 6 ∗ homeK c XK 7 ∗ homeV c XV 6 ∗ homeV c XV 7)) ⊢ _
  iintro ⟨⟨K0, K1, V0, V1⟩, ⟨K2, K3, V2, V3⟩, ⟨K4, K5, V4, V5⟩, ⟨K6, K7, V6, V7⟩⟩
  isplitl [K0 K1 K2 K3 K4 K5 K6 K7]
  · isplitl [K0]; · iexact K0
    isplitl [K1]; · iexact K1
    isplitl [K2]; · iexact K2
    isplitl [K3]; · iexact K3
    isplitl [K4]; · iexact K4
    isplitl [K5]; · iexact K5
    isplitl [K6]; · iexact K6
    iexact K7
  isplitl [V0]; · iexact V0
  isplitl [V1]; · iexact V1
  isplitl [V2]; · iexact V2
  isplitl [V3]; · iexact V3
  isplitl [V4]; · iexact V4
  isplitl [V5]; · iexact V5
  isplitl [V6]; · iexact V6
  iexact V7

omit [FloatOps F] in
theorem slotK_eq (s : Fin 2) (f : ConBuf F) : slotK c s f = (((c : Thread nD τ).loc cc0_scratch0) ↦[SS s]{fullShare} f : sProp 𝕄) :=
  by rw [← slotK_set]; rfl
omit [FloatOps F] in
theorem slotV_eq (s : Fin 2) (f : ConBuf F) : slotV c s f = (((c : Thread nD τ).loc cc0_scratch1) ↦[SS s]{fullShare} f : sProp 𝕄) :=
  by rw [← slotV_set]; rfl

omit [FloatOps F] in
/-- A page buffer is its two slots, and back. -/
theorem bufK_split :
    iprop(∃ f : Buf (Elt F) ((c : Thread nD τ).loc cc0_scratch0), ((c : Thread nD τ).loc cc0_scratch0) ↦{fullShare} f)
      ⊢ (iprop((∃ f, slotK c 0 f) ∗ ∃ f, slotK c 1 f) : sProp 𝕄) := by
  iintro ⟨%f, H⟩
  ihave H2 := (Entails.of_eq ((Ring.pointsTo_blocks (Ix := Unit) (Name := ℕ) (U := UU) (Lvl := ℕ) (q := fullShare) (ℓ := (c : Thread nD τ).loc cc0_scratch0) SS SS_disjoint SS_cover f).trans (bigSep_two _))) $$ H
  icases H2 with ⟨H0, H1⟩
  isplitl [H0]
  · iexists f; iapply (Entails.of_eq (slotK_eq c 0 f).symm); iexact H0
  · iexists f; iapply (Entails.of_eq (slotK_eq c 1 f).symm); iexact H1
omit [FloatOps F] in
theorem bufV_split :
    iprop(∃ f : Buf (Elt F) ((c : Thread nD τ).loc cc0_scratch1), ((c : Thread nD τ).loc cc0_scratch1) ↦{fullShare} f)
      ⊢ (iprop((∃ f, slotV c 0 f) ∗ ∃ f, slotV c 1 f) : sProp 𝕄) := by
  iintro ⟨%f, H⟩
  ihave H2 := (Entails.of_eq ((Ring.pointsTo_blocks (Ix := Unit) (Name := ℕ) (U := UU) (Lvl := ℕ) (q := fullShare) (ℓ := (c : Thread nD τ).loc cc0_scratch1) SS SS_disjoint SS_cover f).trans (bigSep_two _))) $$ H
  icases H2 with ⟨H0, H1⟩
  isplitl [H0]
  · iexists f; iapply (Entails.of_eq (slotV_eq c 0 f).symm); iexact H0
  · iexists f; iapply (Entails.of_eq (slotV_eq c 1 f).symm); iexact H1
omit [FloatOps F] in
theorem bufK_join :
    iprop((∃ f, slotK c 0 f) ∗ ∃ f, slotK c 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) SS SS_disjoint SS_cover f0)
  irw [bigSep_two]
  isplitl [H0]
  · iexists f0; iapply (Entails.of_eq (slotK_eq c 0 f0)); iexact H0
  · iexists f1; iapply (Entails.of_eq (slotK_eq c 1 f1)); iexact H1
omit [FloatOps F] in
theorem bufV_join :
    iprop((∃ f, slotV c 0 f) ∗ ∃ f, slotV c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) SS SS_disjoint SS_cover f0)
  irw [bigSep_two]
  isplitl [H0]
  · iexists f0; iapply (Entails.of_eq (slotV_eq c 0 f0)); iexact H0
  · iexists f1; iapply (Entails.of_eq (slotV_eq c 1 f1)); iexact H1
end Split

end Cert.Paged

end
-- ==== Proof.Fund.lean ====
/-
  THE LAUNCH'S GHOST STATE: each device gets its positions, the tokens of the duties it pays, and the credit it waits with.
-/
module

public import proofs.«01_k».proof.Proof.Splits
public import proofs.«01_k».proof.Proof.Ghost

@[expose] public section

noncomputable section

namespace Cert.Paged

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section Cells

/-- The kernel's own semaphores: the four of the local transfers, the two send, the two receive. -/
abbrev osem : Fin 8 → SemLoc sig :=
  fun | 0 => .dma (cpSem 0 0).sem | 1 => .dma (cpSem 0 1).sem | 2 => .dma (cpSem 1 0).sem | 3 => .dma (cpSem 1 1).sem
      | 4 => csem 1 | 5 => csem 2 | 6 => csem 3 | 7 => csem 4
theorem ownSemFacts : Pipeline.OwnSemFacts cfg0.spec osem := by decide

theorem kcell_injective : Function.Injective (kcell : Dev nD × Fin 5 → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- The protocol's cells, and the one token of each. -/
def xCells : Finset (GSem nD τ sig) := Finset.univ.map ⟨kcell, kcell_injective⟩
abbrev tokOf (ck : Dev nD × Fin 5) : GSem nD τ sig × ℕ × Unit := (kcell ck, 0, ())
theorem tokOf_injective : Function.Injective tokOf := fun _ _ h => kcell_injective (congrArg Prod.fst h)
def xToks : Finset (GSem nD τ sig × ℕ × Unit) := Finset.univ.map ⟨tokOf, tokOf_injective⟩

/-- The launch's ghost element: the staging's, the protocol's, and no transfer yet. -/
def u₀ : UU := (initOf (Pipeline.cells cfgs cellOf_inj) (Pipeline.launchToks cfgs cellOf_inj), (initOf xCells xToks, 1))

end Cells

section Fund
variable (AO : Dev nD → ConO F) (AT : Dev nD → ConT F)

/-- The tokens of a device's own cells. -/
def toks (c : Dev nD) : sProp 𝕄 := bigSep Finset.univ fun k : Fin 5 => dutyTok ER (kcell (c, k)) 0 ()
/-- What the launch deals a device. -/
def G (c : Dev nD) : sProp 𝕄 :=
  iprop((bigSep Finset.univ fun k : Fin 5 => roundState ER (rd AO AT) (kcell (c, k)) 0)
    ∗ (bigSep Finset.univ fun k : Fin 5 => iprop(atPos ER (kcell (c, k)) 0 ∅ 0 ∗ reached ER (kcell (c, k)) 0)) ∗ toks c)
/-- The cells of the local transfers. -/
def cps (c : Dev nD) : sProp 𝕄 := iprop(cpCell c 0 0 ∗ cpCell c 0 1 ∗ cpCell c 1 0 ∗ cpCell c 1 1)
/-- What the devices together make of it. -/
def G' (c : Dev nD) : sProp 𝕄 := iprop((∃ K, ghost AO AT K c) ∗ cps c)

omit [FloatOps F] in
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

omit [FloatOps F] in
theorem fund_cells : BI.own (ER (initOf xCells xToks)) ⊢ (|==> bigSep Finset.univ (G AO AT) : sProp 𝕄) := by
  have hX (Φ : GSem nD τ sig → sProp 𝕄) : bigSep xCells Φ = bigSep Finset.univ fun c : Dev nD => bigSep Finset.univ fun k : Fin 5 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]; rfl
  iintro HX
  imod (Rounds.fund ER (rd AO AT) xCells xToks) $$ HX with ⟨Hst, Hr, Hat, Htok⟩
  imodintro
  ihave Hst' := (Entails.of_eq (hX fun g => roundState ER (rd AO AT) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(cpCell c 0 0 ∗ cpCell c 0 1 ∗ cpCell c 1 0 ∗ cpCell c 1 1
        ∗ semVal (kcell (c, 1)) 0 ∗ semVal (kcell (c, 2)) 0 ∗ semVal (kcell (c, 3)) 0 ∗ semVal (kcell (c, 4)) 0) := by
  rw [Pipeline.ownSems0_eq_of_list c osem [0, 1, 2, 3, 4, 5, 6, 7] (by decide) (by decide)]; rfl
omit [FloatOps F] in
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

/-- One device's share after its cells are opened. -/
def mid (c : Dev nD) : sProp 𝕄 :=
  iprop((bigSep Finset.univ fun k => iprop(∃ κ : ℕ, cellInv ER (rd AO AT) κ (kcell (c, k))))
    ∗ (bigSep Finset.univ fun k => iprop(atPos ER (kcell (c, k)) 0 ∅ 0 ∗ reached ER (kcell (c, k)) 0)) ∗ toks c ∗ cps c)

omit [FloatOps F] in
theorem core_alloc (c : Dev nD) :
    iprop(Pipeline.ownSems0 (Ix := Unit) (Name := ℕ) (U := UU) (Lvl := ℕ) (Val := Elt F) (τ := τ) osem c ∗ unscopedSems0 c ∗ G AO AT c)
      ⊢ |={Set.univ}=> mid AO AT c := by
  unfold G mid cps
  rw [ownSems0_eq, unscopedSems0_eq]
  iintro ⟨⟨C0, C1, C2, C3, S1, S2, S3, S4⟩, S0, Hst, Hat, Htok⟩
  imod (show iprop((bigSep Finset.univ fun k : Fin 5 => semVal (kcell (c, k)) 0) ∗ bigSep Finset.univ fun k : Fin 5 => roundState ER (rd AO AT) (kcell (c, k)) 0)
      ⊢ (|={Set.univ}=> bigSep Finset.univ fun k => iprop(∃ κ : ℕ, cellInv ER (rd AO AT) κ (kcell (c, k))) : sProp 𝕄) from by
        rw [← bigSep_sep']
        exact (bigSep_mono fun k _ => (Rounds.body_intro ER (rd AO AT) (kcell (c, k))).trans inv_alloc).trans (bigSep_fupd _ _)) $$ [S0 S1 S2 S3 S4 Hst] with Hinv
  · isplitl [S0 S1 S2 S3 S4]
    · irw [bigSep_five]
      isplitl [S0]; · iexact S0
      isplitl [S1]; · iexact S1
      isplitl [S2]; · iexact S2
      isplitl [S3]; · iexact S3
      iexact S4
    iexact Hst
  imodintro
  isplitl [Hinv]; · iexact Hinv
  isplitl [Hat]; · iexact Hat
  isplitl [Htok]; · iexact Htok
  isplitl [C0]; · iexact C0
  isplitl [C1]; · iexact C1
  isplitl [C2]; · iexact C2
  iexact C3

/-- What every device may know of every cell. -/
def records (K : Dev nD × Fin 5 → ℕ) : sProp 𝕄 :=
  iprop((bigSep Finset.univ fun ck : Dev nD × Fin 5 => cellInv ER (rd AO AT) (K ck) (kcell ck))
    ∗ bigSep Finset.univ fun ck : Dev nD × Fin 5 => reached ER (kcell ck) 0)
instance records_persistent (K : Dev nD × Fin 5 → ℕ) : BI.Persistent (records AO AT K) := by unfold records; infer_instance

omit [FloatOps F] in
theorem inv_at (K : Dev nD × Fin 5 → ℕ) (ck : Dev nD × Fin 5) : records AO AT K ⊢ cellInv ER (rd AO AT) (K ck) (kcell ck) := by
  unfold records; exact sep_elim_left.trans (bigSep_elim (Finset.mem_univ ck))
omit [FloatOps F] in
theorem reached_at (K : Dev nD × Fin 5 → ℕ) (ck : Dev nD × Fin 5) : records AO AT K ⊢ reached ER (kcell ck) 0 := by
  unfold records; exact sep_elim_right.trans (bigSep_elim (Finset.mem_univ ck))

/-- The tokens of the duties a device pays; what stays with it. -/
def payToks (c : Dev nD) : sProp 𝕄 :=
  iprop(dutyTok ER (kcell (mate c, 0)) 0 () ∗ dutyTok ER (kcell (c, 1)) 0 () ∗ dutyTok ER (kcell (c, 2)) 0 ()
    ∗ dutyTok ER (kcell (mate c, 3)) 0 () ∗ dutyTok ER (kcell (mate c, 4)) 0 ())
def linear (c : Dev nD) : sProp 𝕄 :=
  iprop((bigSep Finset.univ fun k : Fin 5 => atPos ER (kcell (c, k)) 0 ∅ 0) ∗ payToks c ∗ cps c)

omit [FloatOps F] in
theorem ghost_intro (K : Dev nD × Fin 5 → ℕ) (c : Dev nD) : iprop(records AO AT K ∗ linear c) ⊢ G' AO AT c := by
  unfold linear payToks G' ghost invs
  rw [bigSep_five]
  iintro ⟨#HR, ⟨A0, A1, A2, A3, A4⟩, ⟨T0, T1, T2, T3, T4⟩, HC⟩
  isplitr [HC]
  · iexists K
    isplitr
    · isplitr; · iapply (inv_at AO AT K (c, 0)); iexact HR
      isplitr; · iapply (inv_at AO AT K (c, 1)); iexact HR
      isplitr; · iapply (inv_at AO AT K (c, 2)); iexact HR
      isplitr; · iapply (inv_at AO AT K (c, 3)); iexact HR
      isplitr; · iapply (inv_at AO AT K (c, 4)); iexact HR
      isplitr; · iapply (inv_at AO AT K (mate c, 0)); iexact HR
      isplitr; · iapply (inv_at AO AT K (mate c, 3)); iexact HR
      iapply (inv_at AO AT K (mate c, 4)); iexact HR
    isplitl [A0 A1 A2 A3 A4]
    · isplitl [A0]; · iexact A0
      isplitl [A1]; · iexact A1
      isplitl [A2]; · iexact A2
      isplitl [A3]; · iexact A3
      iexact A4
    isplitr
    · isplitr; · iapply (reached_at AO AT K (mate c, 0)); iexact HR
      isplitr; · iapply (reached_at AO AT K (c, 1)); iexact HR
      isplitr; · iapply (reached_at AO AT K (c, 2)); iexact HR
      isplitr; · iapply (reached_at AO AT K (c, 3)); iexact HR
      iapply (reached_at AO AT K (c, 4)); iexact HR
    isplitl [T0]; · iexact T0
    isplitl [T1]; · iexact T1
    isplitl [T2]; · iexact T2
    isplitl [T3]; · iexact T3
    iexact T4
  iexact HC

omit [FloatOps F] in
/-- Every token goes to the device that pays its duty: a barrier's and the two receive cells' to the mate. -/
theorem toks_around : (bigSep Finset.univ fun c : Dev nD => (toks c : sProp 𝕄)) ⊢ bigSep Finset.univ fun c : Dev nD => payToks c := by
  unfold toks payToks
  simp only [bigSep_five]
  rw [bigSep_sep', bigSep_sep', bigSep_sep', bigSep_sep', bigSep_sep', bigSep_sep', bigSep_sep', bigSep_sep',
    bigSep_univ_equiv mates (fun c : Dev nD => (dutyTok ER (kcell (c, 0)) 0 () : sProp 𝕄)),
    bigSep_univ_equiv mates (fun c : Dev nD => (dutyTok ER (kcell (c, 3)) 0 () : sProp 𝕄)),
    bigSep_univ_equiv mates (fun c : Dev nD => (dutyTok ER (kcell (c, 4)) 0 () : sProp 𝕄))]
  exact Entails.rfl

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup : (bigSep Finset.univ (mid AO AT) : sProp 𝕄) ⊢ bigSep Finset.univ (G' AO AT) := by
  unfold mid
  rw [bigSep_sep', bigSep_sep', bigSep_sep', ← bigSep_univ_prod (fun ck : Dev nD × Fin 5 => iprop(∃ κ : ℕ, cellInv ER (rd AO AT) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok, HC⟩
  ihave HK := (BI.bigSep_exists_pi Finset.univ (fun (ck : Dev nD × Fin 5) (κ : ℕ) => (cellInv ER (rd AO AT) κ (kcell ck) : sProp 𝕄))) $$ HI
  icases HK with ⟨%K, #HI⟩
  ihave Htk := (toks_around (F := F)) $$ Htok
  iapply (with_persistent (R := records AO AT K) fun c _ => ghost_intro AO AT K c)
  isplitr
  · unfold records; isplitl; · iexact HI
    iexact HR
  · unfold linear
    irw [bigSep_sep', bigSep_sep']
    isplitl [Hat]; · iexact Hat
    isplitl [Htk]; · iexact Htk
    iexact HC

omit [FloatOps F] in
/-- All devices' semaphores at once. -/
theorem glob : (bigSep Finset.univ fun c => iprop(Pipeline.ownSems0 (Ix := Unit) (Name := ℕ) (U := UU) (Lvl := ℕ) (Val := Elt F) (τ := τ) osem c ∗ unscopedSems0 c ∗ G AO AT c) : sProp 𝕄)
    ⊢ |={Set.univ}=> bigSep Finset.univ (G' AO AT) :=
  ((bigSep_mono fun c _ => core_alloc AO AT c).trans (bigSep_fupd _ _)).trans (BI.fupd_mono (regroup AO AT))

end Fund

section Credit

theorem mate_inj {c d : Dev nD} (h : mate c = mate d) : c = d := by rw [← mate_mate c, h, mate_mate]
theorem kcell_iff {c d : Dev nD} {j k : Fin 5} : kcell (c, j) = kcell (d, k) ↔ c = d ∧ j = k :=
  ⟨fun h => by have h' := kcell_injective h; exact ⟨congrArg Prod.fst h', congrArg Prod.snd h'⟩, fun h => by rw [h.1, h.2]⟩

/-- What device `d` owes at cell `k` of device `c` by one debt to its mate's cell `j`. -/
theorem tally_mate (d c : Dev nD) (j k : Fin 5) (n : ℕ) :
    (tallyAt (kcell (mate d, j)) () n : CellTallies nD τ sig Unit) (kcell (c, k)) () = if j = k then (if d = mate c then n else 0) else 0 := by
  rw [tallyAt_apply]
  by_cases hj : j = k
  · subst hj
    rw [if_pos rfl]
    by_cases hd : d = mate c
    · subst hd; rw [mate_mate, if_pos ⟨rfl, rfl⟩, if_pos rfl]
    · rw [if_neg (fun h => hd (by rw [(kcell_iff.mp h.1).1, mate_mate])), if_neg hd]
  · rw [if_neg (fun h => hj (kcell_iff.mp h.1).2.symm), if_neg hj]

theorem owed_at (d c : Dev nD) (k : Fin 5) :
    O₀ d (kcell (c, k)) () = if d = mate c then (if k = 4 then NT else 0) + (if k = 3 then NO else 0) + (if k = 0 then 1 else 0) else 0 := by
  unfold O₀ O₁ O₂
  rw [Pi.add_apply, Finsupp.add_apply, Pi.add_apply, Finsupp.add_apply, tally_mate, tally_mate, tally_mate]
  by_cases hd : d = mate c
  · simp only [if_pos hd, eq_comm]
  · simp only [if_neg hd, ite_self]

theorem launch_at (c : Dev nD) (k : Fin 5) :
    tallyOn (kcell (c, k)) (launchCredit (Pipeline.owing O₀) 0 (kcell (c, k)))
      = (tallyAt (kcell (c, k)) () ((if k = 4 then NT else 0) + (if k = 3 then NO else 0) + (if k = 0 then 1 else 0)) : CellTallies nD τ sig Unit) := by
  unfold tallyAt; refine congrArg _ (Finsupp.ext fun u => ?_); cases u
  rw [Pipeline.launchCredit_owing, Finsupp.single_eq_same, Finset.sum_congr rfl fun d _ => owed_at d c k, Finset.sum_ite_eq' Finset.univ (mate c),
    if_pos (Finset.mem_univ _)]

omit [FloatOps F] in
/-- The credit the launch deals a device: its barrier's unit and its two receive cells' units. -/
theorem creds_of (c : Dev nD) : (Pipeline.launchCred O₀ c : sProp 𝕄) ⊢ creds c := by
  unfold Pipeline.launchCred creds
  have h0 := launch_at c 0
  have h3 := launch_at c 3
  have h4 := launch_at c 4
  rw [if_neg (by decide), if_neg (by decide), if_pos rfl] at h0
  rw [if_neg (by decide), if_pos rfl, if_neg (by decide)] at h3
  rw [if_pos rfl, if_neg (by decide), if_neg (by decide)] at h4
  rw [bigSep_univ_at _ (csem 0), h0]
  refine sep_mono_right ?_
  rw [BI.bigSep_erase (i := csem 3) (by decide), h3]
  refine sep_mono_right ?_
  rw [show (tallyAt (kcell (c, 4)) () NT : CellTallies nD τ sig Unit) = _ from h4.symm]
  exact bigSep_elim (show csem 4 ∈ (Finset.univ.erase (csem 0)).erase (csem 3) by decide)

end Credit

end Cert.Paged

end
-- ==== Proof.Data.lean ====
/-
  THE LAUNCH'S DATA: what every device holds before and after the kernel, and that the kernel takes the one to the other.
-/
module

public import proofs.«01_k».proof.Proof.Fund

@[expose] public section

noncomputable section

namespace Cert.Paged

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- The state at launch. -/
def s₀ : MemSt nD τ sig (Elt F) := ⟨m, fun _ => 0, ρ⟩

section Contents
variable (c : Dev nD)

/-- The operands as staged, and the pages. -/
def inQ : ConQ F := (win0_0.blk (0 : Fin 1)).view.read (Elt F) (m ((c : Thread nD τ).loc main_arg0))
def inB : ConB F := (win0_1.blk (0 : Fin 1)).view.read (Elt F) (m ((c : Thread nD τ).loc main_arg3))
def inL : ConL F := (win0_2.blk (0 : Fin 1)).view.read (Elt F) (m ((c : Thread nD τ).loc main_arg4))
abbrev inK : ConPg F := m ((c : Thread nD τ).loc main_arg1)
abbrev inV : ConPg F := m ((c : Thread nD τ).loc main_arg2)

/-- The heads' states of device `c` after its pages. -/
def stEnd : Fin 8 → Hd F := stAt (inQ m c) (inK m c) (inV m c) (wAt c (inB m c) (inL m c)) 4
/-- What device `c` sends. -/
def AO : ConO F := oAll (stEnd m c)
def AT : ConT F := tAll (stEnd m c)
/-- What device `c` leaves in its result. -/
def outEnd : ConR F := outAll (stEnd m c) (AO m (mate c)) (AT m (mate c))

end Contents

section Data

/-- What a device starts from, its buffers aside. -/
def start (c : Dev nD) : sProp 𝕄 :=
  iprop(G' (AO m) (AT m) c ∗ creds c ∗ levAts L lv ∗ bigSep (Finset.range 4) (homes c (inK m c) (inV m c)))
/-- The buffers of the exchange and of the weights. -/
def five (c : Dev nD) : sProp 𝕄 :=
  iprop((∃ f, wholePts c cc0_scratch2 f) ∗ (∃ f, wholePts c cc0_scratch3 f) ∗ (∃ f, wholePts c cc0_scratch4 f) ∗ (∃ f, wholePts c cc0_scratch5 f)
    ∗ (∃ f, wholePts c cc0_scratch6 f))
def slots (c : Dev nD) : sProp 𝕄 := iprop((∃ f, slotK c 0 f) ∗ (∃ f, slotV c 0 f) ∗ (∃ f, slotK c 1 f) ∗ (∃ f, slotV c 1 f))
def Φ₀ (c : Dev nD) : sProp 𝕄 := iprop(start m c ∗ five c ∗ slots c)
/-- After the kernel: the pages home, every buffer, every cell at zero. -/
def Φ₁ (c : Dev nD) : sProp 𝕄 :=
  iprop(bigSep (Finset.range 4) (homes c (inK m c) (inV m c)) ∗ five c ∗ idle c
    ∗ (semVal (kcell (c, 0)) 0 ∗ semVal (kcell (c, 1)) 0 ∗ semVal (kcell (c, 2)) 0 ∗ semVal (kcell (c, 3)) 0 ∗ semVal (kcell (c, 4)) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inQ m c
    | ⟨1, _⟩ => inB m c
    | ⟨2, _⟩ => inL m c
    | ⟨3, _⟩ => outEnd m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 4)).fetch t = true := by rw [fin_N0 t]; rfl
theorem fetch_1 (t : Fin cfg0.N) : (cfg0.win (1 : Fin 4)).fetch t = true := by rw [fin_N0 t]; rfl
theorem fetch_2 (t : Fin cfg0.N) : (cfg0.win (2 : Fin 4)).fetch t = true := by rw [fin_N0 t]; rfl

theorem before_0 (c : Dev nD) (d) : (dats m ρ 0 c).before (0 : Fin 4) t0_0 d = inQ m c := by
  unfold Dat.before; rw [if_pos (fetch_0 t0_0)]; rfl
theorem before_1 (c : Dev nD) (d) : (dats m ρ 0 c).before (1 : Fin 4) t0_0 d = inB m c := by
  unfold Dat.before; rw [if_pos (fetch_1 t0_0)]; rfl
theorem before_2 (c : Dev nD) (d) : (dats m ρ 0 c).before (2 : Fin 4) t0_0 d = inL m c := by
  unfold Dat.before; rw [if_pos (fetch_2 t0_0)]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ wholePts c b f) := by
  unfold owns; simp only [wholePts, Memref.view_whole, View.read_whole, View.set_whole]

/-- A staging buffer at given contents. -/
abbrev stg (c : Dev nD) (b : Ref sig .tc) (X : b.ty.Contents (Elt F)) : sProp 𝕄 :=
  iprop(∃ f : Buf (Elt F) ((c : Thread nD τ).loc b), ⌜f = X⌝ ∗ wholePts c b f)

set_option maxRecDepth 4000 in
def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyEnd (c : Dev nD) : sProp 𝕄 :=
  iprop(Φ₁ m c ∗ (dats m ρ 0 c).owesAt () t0_0.succ
    ∗ stg c cc0_stg0_0 (inQ m c) ∗ stg c cc0_stg1_0 (inB m c) ∗ stg c cc0_stg2_0 (inL m c) ∗ stg c cc0_stg3_0 (outEnd m c))

set_option maxRecDepth 4000 in
theorem body_step (c : Dev nD) :
    bodyPre m ρ c ⊢ wp frame (wpE (defs₀ (F := F)) 𝒱₀ (c : Thread nD τ) none) Set.univ (theBody (F := F)) (fun _ => bodyEnd m ρ c) := by
  unfold bodyPre Φ₀ start G' cps five slots Dat.owesAt Pipeline.owesWithin
  rw [show (dats m ρ 0 c).owed t0_0.castSucc = O₀ c from rfl]
  iintro ⟨⟨⟨⟨⟨%K, Hg⟩, C0, C1, C2, C3⟩, Hc, Hlev, HH⟩, Hf, ⟨SK0, SV0, SK1, SV1⟩⟩, ⟨%W, -, HO⟩, ⟨%d0, %g0, %hg0, HQ⟩, ⟨%d1, %g1, %hg1, HB⟩, ⟨%d2, %g2, %hg2, HL⟩, ⟨%d3, %g3, -, HR⟩⟩
  rw [before_0] at hg0
  rw [before_1] at hg1
  rw [before_2] at hg2
  subst hg0 hg1 hg2
  iapply (body_run c (inQ m c) (inK m c) (inV m c) (inB m c) (inL m c) (AO m) (AT m) K rfl rfl (fun _ => bodyEnd m ρ c))
  isplitl [Hg C0 C1 C2 C3 Hc Hlev HH Hf SK0 SV0 SK1 SV1 HO HQ HB HL HR]
  · isplitl [Hlev]; · iexact Hlev
    isplitl [HQ HB HL HR]
    · isplitl [HQ]; · iexact HQ
      isplitl [HB]; · iexact HB
      isplitl [HL]; · iexact HL
      iexists g3; iexact HR
    isplitl [Hf]; · iexact Hf
    isplitl [HH]; · iexact HH
    isplitl [SK0 SV0 SK1 SV1 C0 C1 C2 C3]
    · isplitl [SK0]; · iexact SK0
      isplitl [SV0]; · iexact SV0
      isplitl [SK1]; · iexact SK1
      isplitl [SV1]; · iexact SV1
      isplitl [C0]; · iexact C0
      isplitl [C1]; · iexact C1
      isplitl [C2]; · iexact C2
      iexact C3
    isplitl [Hg]; · iexact Hg
    isplitl [Hc]; · iexact Hc
    iexists W; iexact HO
  unfold bodyPost tailPost
  iintro ⟨⟨HQ, HB, HL, Hw⟩, HH, HI, HR, ⟨H3, H4, H5, H6⟩, HZ, ⟨%W', HO⟩⟩
  unfold bodyEnd Φ₁ five Dat.owesAt Pipeline.owesWithin
  rw [show (dats m ρ 0 c).owed t0_0.succ = 0 from rfl]
  isplitl [HH Hw H3 H4 H5 H6 HI HZ]
  · isplitl [HH]; · iexact HH
    isplitl [Hw H3 H4 H5 H6]
    · isplitl [Hw]; · iexact Hw
      isplitl [H3]; · iexact H3
      isplitl [H4]; · iexact H4
      isplitl [H5]; · iexact H5
      iexact H6
    isplitl [HI]; · iexact HI
    iexact HZ
  isplitl [HO]
  · iexists W'
    isplitr; · ipureintro; exact fun _ _ => Or.inl trivial
    iexact HO
  isplitl [HQ]; · iexists _; isplitr; · (ipureintro; rfl)
                  iexact HQ
  isplitl [HB]; · iexists _; isplitr; · (ipureintro; rfl)
                  iexact HB
  isplitl [HL]; · iexists _; isplitr; · (ipureintro; rfl)
                  iexact HL
  iexists _; isplitr; · (ipureintro; rfl)
  iexact HR

set_option maxRecDepth 4000 in
/-- The launch's obligation for the kernel. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ (theBody (F := F)) (fun _ => bodyEnd m ρ c)
  exact body_step m ρ c

end Data

end Cert.Paged

end
-- ==== Proof.Run.lean ====
/-
  THE RUN of the kernel on the whole mesh: the launch's side conditions, and what every final state holds.
-/
module

public import proofs.«01_k».proof.Proof.Data
public import Idealize.ShloMosaic.Lib.Pipeline.CollectiveSegs

@[expose] public section

noncomputable section

namespace Cert.Paged

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

section Side

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (AO m) (AT m) c)
      ⊢ |={Set.univ}=> iprop(start m c ∗ emp) := by
  rw [Pipeline.unscopedRestP_none, unscopedRest0_eq]
  iintro ⟨HH, Hlev, Hcr, -, HG⟩
  ihave Hc := (creds_of (F := F) c) $$ Hcr
  ihave Hh := (homes_of c (inK m c) (inV m c)) $$ HH
  imodintro
  unfold start
  isplitl
  · isplitl [HG]; · iexact HG
    isplitl [Hc]; · iexact Hc
    isplitl [Hlev]; · iexact Hlev
    iexact Hh
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ five slots
  simp only [wholePts_eq]
  iintro ⟨Hs, -, H0, H1, H2, H3, H4, H5, H6⟩
  ihave HK := (bufK_split (F := F) c) $$ H0
  ihave HV := (bufV_split (F := F) c) $$ H1
  icases HK with ⟨K0, K1⟩
  icases HV with ⟨V0, V1⟩
  isplitl [Hs]; · iexact Hs
  isplitl [H2 H3 H4 H5 H6]
  · isplitl [H2]; · iexact H2
    isplitl [H3]; · iexact H3
    isplitl [H4]; · iexact H4
    isplitl [H5]; · iexact H5
    iexact H6
  isplitl [K0]; · iexact K0
  isplitl [V0]; · iexact V0
  isplitl [K1]; · iexact K1
  iexact V1

/-- What the exit keeps: the barrier at zero, and the pages as they were. -/
def keep (c : Dev nD) : sProp 𝕄 :=
  iprop(unscopedSems0 c ∗ (((c : Thread nD τ).loc main_arg1) ↦{fullShare} m ((c : Thread nD τ).loc main_arg1))
    ∗ (((c : Thread nD τ).loc main_arg2) ↦{fullShare} m ((c : Thread nD τ).loc main_arg2)))

theorem phi1_exit (c : Dev nD) :
    (dats m ρ 0 c).Φ (Fin.last cfg0.N) ⊢ iprop(keep m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ five keep
  rw [unscopedSems0_eq]
  simp only [wholePts_eq]
  iintro ⟨HH, ⟨H2, H3, H4, H5, H6⟩, ⟨K0, V0, K1, V1, C0, C1, C2, C3⟩, ⟨Z0, Z1, Z2, Z3, Z4⟩⟩
  ihave Hh := (of_homes c (inK m c) (inV m c)) $$ HH
  isplitl [Z0 Hh]
  · isplitl [Z0]; · iexact Z0
    iexact Hh
  isplitl [C0 C1 C2 C3 Z1 Z2 Z3 Z4]
  · isplitl [C0]; · iexact C0
    isplitl [C1]; · iexact C1
    isplitl [C2]; · iexact C2
    isplitl [C3]; · iexact C3
    isplitl [Z1]; · iexact Z1
    isplitl [Z2]; · iexact Z2
    isplitl [Z3]; · iexact Z3
    iexact Z4
  isplitl [K0 K1]
  · iapply (bufK_join (F := F) c)
    isplitl [K0]; · iexact K0
    iexact K1
  isplitl [V0 V1]
  · iapply (bufV_join (F := F) c)
    isplitl [V0]; · iexact V0
    iexact V1
  isplitl [H2]; · iexact H2
  isplitl [H3]; · iexact H3
  isplitl [H4]; · iexact H4
  isplitl [H5]; · iexact H5
  iexact H6

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) (by fin_cases w <;> fin_cases s <;> decide) (by fin_cases w <;> fin_cases s <;> decide) _ (by
      rcases t with ⟨_ | _, ht⟩
      · exact Or.inl rfl
      · exact Or.inr rfl)

/-- What is read of a final state beyond the windows' arrays. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)
    ∧ s.mem ((c : Thread nD τ).loc main_arg2) = m ((c : Thread nD τ).loc main_arg2)

theorem read_keep (c : Dev nD) (s' : Phys nD τ sig (Elt F)) :
    iprop(keep m c ∗ emp ∗ SI s') ⊢ |={Set.univ}=> iprop(⌜QY m c s'.mem⌝ ∗ SI s' : sProp 𝕄) := by
  unfold keep
  iintro ⟨⟨Hu, H1, H2⟩, -, HSI⟩
  icombine HSI H1 gives %h1
  icombine HSI H2 gives %h2
  imod (Pipeline.unscopedSems0_read (X := unscopedSems0 c) (c := c) fupd_intro s') $$ [Hu HSI] with ⟨%hs, HSI⟩
  · isplitl [Hu] <;> iassumption
  imodintro
  isplitr; · ipureintro; exact ⟨hs, Buf.eq_of_forall_mem_univ h1, Buf.eq_of_forall_mem_univ h2⟩
  iexact HSI

end Side

/-- The arrays of the windows after the run. -/
def finalA (c : Dev nD) (w : Fin cfg0.W) : Buf (Elt F) ((cfg0.win w).arr.view.loc (c : Thread nD τ)) := (dats m ρ 0 c).arrAt w cfg0.N

/-- What every final state satisfies: the windows' arrays at the computed contents, the pages unchanged. -/
def QC : PUnit × MemSt nD τ sig (Elt F) → Prop := fun r =>
  ∀ c : Dev nD, (∀ w : Fin cfg0.W, r.2.mem ((cfg0.win w).arr.view.loc (c : Thread nD τ)) = finalA m ρ c w) ∧ QY m c r.2

set_option maxRecDepth 8000 in
/-- The run, for any float values, from any memory with all counters at zero: it ends, every result array holds the
    computed contents, the operands are unchanged, and every counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (AO m) (AT m)) (G' := G' (AO m) (AT m)) (u₀ := u₀)
    (hu₀ := by
      unfold u₀
      iintro Hu
      ihave H := (ownU_pair _ _) $$ Hu
      icases H with ⟨HP, HX⟩
      ihave H2 := (own_pair_emb (embR : Emb (UR sig nD τ × Counters) (MT nD τ sig Unit (Elt F) ℕ UU ℕ)) _ _) $$ HX
      icases H2 with ⟨HX, -⟩
      imod (fund_cells (AO m) (AT m)) $$ HX with HG
      imodintro
      isplitl [HP] <;> iassumption)
    (hglob := glob (AO m) (AT m))
    (hA := fun _ _ => rfl) (hpf := fun _ k => k.elim0)
    (X := start m) (Y := keep m) (Z := fun _ => iprop(emp))
    (hX := start_intro m ρ) (hin := phi0_intro m ρ) (hout := phi1_exit m ρ)
    (QY := QY m) (hY := read_keep m)
    (hQ := fun _ h hs => ⟨fun c => ⟨(h c).1, (h c).2.2⟩, sem_eq_zero hs fun c => (h c).2.2.1⟩)

/-- An operand's array after the run holds what it held. -/
theorem finalA_in (c : Dev nD) (w : Fin cfg0.W) (hw : (cfg0.win w).isOut = false) :
    finalA m ρ c w = m ((cfg0.win w).arr.view.loc (c : Thread nD τ)) :=
  (dats (F := F) m ρ 0 c).arrAt_in w hw _

end Cert.Paged

end
-- ==== Proof.Frames.lean ====
/-
  THE FRAMES of the two readings of the kernel, from the one run.
-/
module

public import proofs.«01_k».proof.Proof.Run
public import proofs.«01_k».proof.Proof.Gen.Kernel
public import proofs.«01_k».proof.Proof.Gen.ReferenceIdeal.Run
public import proofs.«01_k».proof.Defs

@[expose] public section

noncomputable section

namespace Cert.Paged

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- What a final state of the kernel says of its operands. -/
theorem operands_kept (m : (ℓ : Loc nD τ sig) → Buf (Elt F) ℓ) (ρ : Dev nD → PrngReg) {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (finalA_in m ρ c 0 rfl), (h c).2.2.1, (h c).2.2.2,
    ((h c).1 1).trans (finalA_in m ρ c 1 rfl), ((h c).1 2).trans (finalA_in m ρ c 2 rfl)⟩

/-- The kernel over exact values terminates without a fault, leaves its operands as they were and every counter at zero. -/
theorem frame_kernelIdeal : Cert.quiescent_KernelIdeal (hKernelIdeal := Cert.KernelIdeal.Gen.facts) := fun m ρ _ =>
  (θ_run Cert.KernelIdeal.defs _ _).mono (fun _ h => ⟨operands_kept m ρ h.1, h.2⟩) (run_main (F := Ideal) m ρ)

set_option maxRecDepth 8192 in
/-- The two readings of the kernel have the same bodies. -/
theorem bodies_eq : Cert.Kernel.defs₀ (F := F) = Cert.KernelIdeal.defs₀ (F := F) := by
  funext p ℓ a
  match p, ℓ, a with
  | .tc, 0, (t, s) => rfl
  | .scScalar _, 0, _ => rfl
  | .scVector _ _, 0, _ => rfl

set_option maxRecDepth 8192 in
/-- The two readings of the kernel have the same body tables. -/
theorem tables_eq : Cert.Kernel.defs (F := F) = Cert.KernelIdeal.defs (F := F) :=
  congrArg (Pipeline.defs (Cert.KernelIdeal.pcfgs (F := F))) bodies_eq

set_option maxRecDepth 8192 in
/-- The kernel as it runs on the device terminates without a fault, leaves its operands as they were and every counter at zero. -/
theorem frame_kernel : Cert.quiescent_Kernel (hKernel := Cert.Kernel.Gen.facts) := by
  intro m ρ _
  rw [tables_eq]
  exact (θ_run (Cert.KernelIdeal.defs (F := Bits)) _ _).mono (fun _ h => ⟨operands_kept m ρ h.1, h.2⟩) (run_main (F := Bits) m ρ)

/-- The reference terminates without a fault and leaves its operands as they were. -/
theorem frame_reference : Cert.quiescent_ReferenceIdeal (hReferenceIdeal := Cert.ReferenceIdeal.Gen.facts) := by
  intro m ρ _
  exact (θ_run Cert.ReferenceIdeal.defs _ _).mono (fun r h => ⟨fun c => (h c).2, sem_eq_zero_of_no_sems (by decide) r.2⟩)
    (Cert.ReferenceIdeal.Value.run (F := Ideal) m ρ)

end Cert.Paged

end
-- ==== Proof.KerRead.lean ====
/-
  THE KERNEL'S PAYLOADS, ENTRY BY ENTRY: what each vector the kernel computes holds at one place.
-/
module

public import proofs.«01_k».proof.Proof.Stores
public import Idealize.ShloMosaic.Lib.Pointwise

@[expose] public section

noncomputable section

namespace Cert.Paged

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- The state's seeds. -/
theorem pay131_at (b : Fin 8) : k0_pay131 (F := Ideal) (ix2 b 0) = Ideal.ofBits .f32 0xF149F2CA#32 := by pointwise [k0_pay131]
theorem pay139_at (b : Fin 8) : k0_pay139 (F := Ideal) (ix2 b 0) = Ideal.ofBits .f32 0x0#32 := by pointwise [k0_pay139]
theorem pay147_at (b : Fin 8) (d : Fin 128) : k0_pay147 (F := Ideal) (ix2 b d) = Ideal.ofBits .f32 0x0#32 := by pointwise [k0_pay147]

/-- A score: a query with a row of the pages, scaled. -/
theorem pay4_at (q : FVec Ideal S8x128 .f32) (k : Vec Ideal S1x64x16x1x128 .f32) (b : Fin 8) (x : Fin 1024) :
    k0_pay4 q k (ix2 b x) = (∑ y, q (ix2 b y) * k (ix5 0 ⟨x.val / 16, by omega⟩ ⟨x.val % 16, by omega⟩ 0 y)) * Ideal.ofBits .f32 0x3DB504F3#32 := by
  pointwise [k0_pay4]
/-- The new maximum. -/
theorem pay5_at (m : FVec Ideal S8x1 .f32) (q : FVec Ideal S8x128 .f32) (k : Vec Ideal S1x64x16x1x128 .f32) (b : Fin 8) :
    k0_pay5 m q k (ix2 b 0) = max (m (ix2 b 0)) (Finset.fold max (Ideal.ofBits .f32 0xFF800000#32) (fun x => k0_pay4 q k (ix2 b x)) Finset.univ) := by
  unfold k0_pay5
  generalize k0_pay4 q k = s
  pointwise []
/-- The new sum. -/
theorem pay8_at (m l : FVec Ideal S8x1 .f32) (w : FVec Ideal S8x1024 .f32) (q : FVec Ideal S8x128 .f32) (k : Vec Ideal S1x64x16x1x128 .f32) (b : Fin 8) :
    k0_pay8 m l w q k (ix2 b 0) = l (ix2 b 0) * Ideal.exp (m (ix2 b 0) - k0_pay5 m q k (ix2 b 0))
      + ∑ x, Ideal.exp (k0_pay4 q k (ix2 b x) - k0_pay5 m q k (ix2 b 0)) * w (ix2 b x) := by
  unfold k0_pay8 k0_pay7 k0_pay6
  generalize k0_pay4 q k = s
  generalize k0_pay5 m q k = n
  pointwise []
/-- The new accumulator. -/
theorem pay9_at (m : FVec Ideal S8x1 .f32) (a : FVec Ideal S8x128 .f32) (w : FVec Ideal S8x1024 .f32) (q : FVec Ideal S8x128 .f32)
    (k v : Vec Ideal S1x64x16x1x128 .f32) (b : Fin 8) (d : Fin 128) :
    k0_pay9 m a w q k v (ix2 b d) = a (ix2 b d) * Ideal.exp (m (ix2 b 0) - k0_pay5 m q k (ix2 b 0))
      + ∑ x, Ideal.exp (k0_pay4 q k (ix2 b x) - k0_pay5 m q k (ix2 b 0)) * w (ix2 b x) * v (ix5 0 ⟨x.val / 16, by omega⟩ ⟨x.val % 16, by omega⟩ 0 d) := by
  unfold k0_pay9 k0_pay7 k0_pay6
  generalize k0_pay4 q k = s
  generalize k0_pay5 m q k = n
  pointwise []
/-- A head's query. -/
theorem pay3_at (q : Vec Ideal S8x1x1x128 .f32) (b : Fin 8) (d : Fin 128) : k0_pay3 q (ix2 b d) = q (ix4 b 0 0 d) := by pointwise [k0_pay3]
/-- A page's weight, for each of its rows. -/
theorem pay2_at (w : Vec Ideal S1x8x64 .f32) (b : Fin 8) (x : Fin 1024) : k0_pay2 w (ix2 b x) = w (ix3 0 b ⟨x.val / 16, by omega⟩) := by pointwise [k0_pay2]
/-- What is sent. -/
theorem pay159_at (a : FVec Ideal S8x128 .f32) (b : Fin 8) (d : Fin 128) : k0_pay159 a (ix3 0 b d) = a (ix2 b d) := by pointwise [k0_pay159]
theorem pay160_at (a : FVec Ideal S8x1 .f32) (b : Fin 8) : k0_pay160 a (ix3 0 b 0) = a (ix2 b 0) := by pointwise [k0_pay160]
theorem pay161_at (a : FVec Ideal S8x1 .f32) (b : Fin 8) : k0_pay161 a (ix3 0 b 0) = a (ix2 b 0) := by pointwise [k0_pay161]
/-- The two halves joined. -/
theorem pay183_at (m l : FVec Ideal S8x1 .f32) (a : FVec Ideal S8x128 .f32) (m' l' : Vec Ideal S1x8x1 .f32) (a' : Vec Ideal S1x8x128 .f32) (b : Fin 8) (d : Fin 128) :
    k0_pay183 m l a m' l' a' (ix4 b 0 0 d)
      = Ideal.div (a (ix2 b d) * Ideal.exp (m (ix2 b 0) - max (m (ix2 b 0)) (m' (ix3 0 b 0))) + a' (ix3 0 b d) * Ideal.exp (m' (ix3 0 b 0) - max (m (ix2 b 0)) (m' (ix3 0 b 0))))
          (l (ix2 b 0) * Ideal.exp (m (ix2 b 0) - max (m (ix2 b 0)) (m' (ix3 0 b 0))) + l' (ix3 0 b 0) * Ideal.exp (m' (ix3 0 b 0) - max (m (ix2 b 0)) (m' (ix3 0 b 0)))) := by
  pointwise [k0_pay183]
/-- A page's weight: how many entries of the table that count name the page. -/
theorem pay121_at (t : IVec S8x512x1 32) (k : IVec S8x512x1 1) (p : IVec S1x1x64 32) (b : Fin 8) (g : Fin 64) :
    k0_pay121 (F := Ideal) t k p (ix3 0 b g)
      = ∑ x, FloatOps.sitofp (F := Ideal) .f32 (BitVec.setWidth 32 (IntOp.andi (IntOp.cmpi .eq (t (ix3 b x 0)) (p (ix3 0 0 g))) (k (ix3 b x 0)))) := by
  pointwise [k0_pay121]
theorem pay118_at (t : Vec Ideal S8x512 .i32) (b : Fin 8) (j : Fin 512) : k0_pay118 (F := Ideal) t (ix3 b j 0) = t (ix2 b j) := by pointwise [k0_pay118]
/-- Which entries of the table count: those before the request's length. -/
theorem pay119_at (l : Fin 8 → BitVec 32) (b : Fin 8) (j : Fin 512) :
    k0_pay119 (F := Ideal) (l 0) (l 1) (l 2) (l 3) (l 4) (l 5) (l 6) (l 7) (ix3 b j 0) = IntOp.cmpi .slt (BitVec.ofNat 32 j.val) (l b) := by
  pointwise [k0_pay119]
  refine congrArg _ ?_
  fin_cases b <;> rfl

section Reads

/-- A head's query, read from the staged queries. -/
theorem qAt_at (X : ConQ Ideal) (h b : Fin 8) (d : Fin 128) : qAt X h (ix4 b 0 0 d) = X (ix4 b 0 h d) := by
  unfold qAt
  rw [View.readAt_rect]
  refine congrArg X (funext fun a => Fin.ext ?_)
  match a with
  | ⟨0, _⟩ => show 0 + 1 * b.val = b.val; omega
  | ⟨1, _⟩ => rfl
  | ⟨2, _⟩ => show h.val + 1 * 0 = h.val; omega
  | ⟨3, _⟩ => show 0 + 1 * d.val = d.val; omega

/-- A row of a head's pages, read from a slot that holds chunk `p`. -/
theorem pgAt_at (X : ConPg Ideal) (s : Fin 2) (p h : Fin 8) (g : Fin 64) (r : Fin 16) (d : Fin 128) :
    pgAt (slotCont X p) s h (ix5 0 g r 0 d) = X (ix4 ⟨64 * p.val + g.val, by omega⟩ r h d) := by
  unfold pgAt
  rw [View.readAt_rect]
  refine congrArg X (funext fun a => Fin.ext ?_)
  match a with
  | ⟨0, _⟩ => show 64 * p.val + (0 + 1 * g.val) = _; simp
  | ⟨1, _⟩ => show 0 + 1 * r.val = r.val; omega
  | ⟨2, _⟩ => show h.val + 1 * 0 = h.val; omega
  | ⟨3, _⟩ => show 0 + 1 * d.val = d.val; omega

theorem tIn_at (T : ConT Ideal) (t : Fin 2) (h b : Fin 8) : tIn T t h (ix3 0 b 0) = T (ix3 t b h) := by
  unfold tIn
  rw [View.readAt_rect]
  refine congrArg T (funext fun a => Fin.ext ?_)
  match a with
  | ⟨0, _⟩ => show t.val + 1 * 0 = t.val; omega
  | ⟨1, _⟩ => show 0 + 1 * b.val = b.val; omega
  | ⟨2, _⟩ => show h.val + 1 * 0 = h.val; omega

theorem oIn_at (O : ConO Ideal) (h b : Fin 8) (d : Fin 128) : oIn O h (ix3 0 b d) = O (ix3 h b d) := by
  unfold oIn
  rw [View.readAt_rect]
  refine congrArg O (funext fun a => Fin.ext ?_)
  match a with
  | ⟨0, _⟩ => show h.val + 1 * 0 = h.val; omega
  | ⟨1, _⟩ => show 0 + 1 * b.val = b.val; omega
  | ⟨2, _⟩ => show 0 + 1 * d.val = d.val; omega

theorem lenAt_at (X : ConL Ideal) (b : Fin 8) : lenAt X b = X (ix1 b) := by
  unfold lenAt
  rw [View.readAt_rect]
  refine congrArg X (funext fun a => Fin.ext ?_)
  match a with
  | ⟨0, _⟩ => show b.val + 1 * _ = b.val; simp [Shape.Idx.first]

theorem tabV_at (X : ConB Ideal) (b : Fin 8) (j : Fin 512) : tabV X (ix3 b j 0) = X (ix2 b j) := by
  unfold tabV
  rw [pay118_at, View.readAt_rect]
  refine congrArg X (funext fun a => Fin.ext ?_)
  match a with
  | ⟨0, _⟩ => show 0 + 1 * b.val = b.val; omega
  | ⟨1, _⟩ => show 0 + 1 * j.val = j.val; omega

theorem maskV_at (X : ConL Ideal) (b : Fin 8) (j : Fin 512) : maskV X (ix3 b j 0) = IntOp.cmpi .slt (BitVec.ofNat 32 j.val) (X (ix1 b)) := by
  unfold maskV
  rw [pay119_at (fun b => lenAt X b)]
  rw [lenAt_at]

theorem wEv_at (W : ConW Ideal) (k : Fin k0_t1_loop.trips) (b : Fin 8) (x : Fin 1024) :
    wEv W k (ix2 b x) = W (ix3 (ev k.val) b ⟨x.val / 16, by omega⟩) := by
  unfold wEv
  rw [pay2_at, View.readAt_rect]
  refine congrArg W (funext fun a => Fin.ext ?_)
  match a with
  | ⟨0, _⟩ => show k0_off2 k 0 + 1 * 0 = (ev k.val).val; revert k; decide +kernel
  | ⟨1, _⟩ => show k0_off2 k 1 + 1 * b.val = b.val; show 0 + 1 * b.val = b.val; omega
  | ⟨2, _⟩ => show 0 + 1 * (x.val / 16) = x.val / 16; omega

theorem wOd_at (W : ConW Ideal) (k : Fin k0_t1_loop.trips) (b : Fin 8) (x : Fin 1024) :
    wOd W k (ix2 b x) = W (ix3 (od k.val) b ⟨x.val / 16, by omega⟩) := by
  unfold wOd
  rw [pay2_at, View.readAt_rect]
  refine congrArg W (funext fun a => Fin.ext ?_)
  match a with
  | ⟨0, _⟩ => show k0_off5 k 0 + 1 * 0 = (od k.val).val; revert k; decide +kernel
  | ⟨1, _⟩ => show 0 + 1 * b.val = b.val; omega
  | ⟨2, _⟩ => show 0 + 1 * (x.val / 16) = x.val / 16; omega
end Reads

section Weights
variable (c : Dev nD)

/-- The numbers of the pages of chunk `p` of device `c`. -/
def pgIds (p : Fin 8) : IVec S1x1x64 32 :=
  addi (broadcast S1x1x64 (Scalar.addi (Scalar.muli (xWord c) 512#32) (BitVec.ofNat 32 (64 * p.val)))) (iota .tc S1x1x64 32 [2] iota_S1x1x64_d2_w32)

theorem wRow_eq (XB : ConB Ideal) (XL : ConL Ideal) (p : Fin 8) :
    wRow c XB XL p = k0_pay121 (tabV XB) (maskV XL) (pgIds c p) := by
  match p with
  | 0 => rfl
  | 1 => rfl
  | 2 => rfl
  | 3 => rfl
  | 4 => rfl
  | 5 => rfl
  | 6 => rfl
  | 7 => rfl

/-- The device's coordinate on the axis `x`. -/
def xOf : ℕ := c.val / 8

theorem xWord_eq : xWord c = BitVec.ofNat 32 (xOf c) := by revert c; decide

theorem pgIds_at (p : Fin 8) (g : Fin 64) : pgIds c p (ix3 0 0 g) = BitVec.ofNat 32 (512 * xOf c + (64 * p.val + g.val)) := by
  have e : pgIds c p (ix3 0 0 g) = (xWord c * 512#32 + BitVec.ofNat 32 (64 * p.val)) + BitVec.ofNat 32 g.val := by
    unfold pgIds
    pointwise []
    rfl
  rw [e, xWord_eq]
  apply BitVec.eq_of_toNat_eq
  have hx : xOf c < 2 := by unfold xOf; have : c.val < 16 := c.isLt; omega
  have := p.isLt; have := g.isLt
  simp only [BitVec.toNat_add, BitVec.toNat_mul, BitVec.toNat_ofNat]
  omega

/-- One entry's part in a count. -/
theorem count_bit (u v : BitVec 32) (q : BitVec 1) :
    FloatOps.sitofp (F := Ideal) .f32 (BitVec.setWidth 32 (IntOp.andi (IntOp.cmpi .eq u v) q)) = if u = v ∧ q = 1#1 then (1 : EReal) else 0 := by
  have h0 : FloatOps.sitofp (F := Ideal) .f32 (0#32) = (0 : EReal) := by
    show (((0#32 : BitVec 32).toInt : ℝ) : EReal) = 0; simp
  have h1 : FloatOps.sitofp (F := Ideal) .f32 (1#32) = (1 : EReal) := by
    show (((1#32 : BitVec 32).toInt : ℝ) : EReal) = 1; simp
  by_cases h : u = v
  · rcases BitVec.eq_zero_or_eq_one q with hq | hq <;> subst hq
    · rw [if_neg (by simp), ← h0]; simp [IntOp.cmpi, IntOp.andi]
    · rw [if_pos ⟨h, rfl⟩, ← h1]; simp [IntOp.cmpi, IntOp.andi, h]
  · rw [if_neg (fun e => h e.1), ← h0]
    have hb : (u == v) = false := beq_eq_false_iff_ne.mpr h
    simp [IntOp.cmpi, IntOp.andi, hb]

/-- The weight of page `g` of chunk `p` for request `b`: how many counting entries of the request's table name it. -/
theorem wAt_at (XB : ConB Ideal) (XL : ConL Ideal) (p b : Fin 8) (g : Fin 64) :
    (wAt c XB XL (ix3 p b g) : EReal) = ∑ j : Fin 512, if XB (ix2 b j) = BitVec.ofNat 32 (512 * xOf c + (64 * p.val + g.val))
      ∧ IntOp.cmpi .slt (BitVec.ofNat 32 j.val) (XL (ix1 b)) = 1#1 then (1 : EReal) else 0 := by
  have e : wAt c XB XL (ix3 p b g) = wRow c XB XL p (ix3 0 b g) := by
    unfold wAt
    refine congrArg (wRow c XB XL p) (funext fun a => ?_)
    match a with
    | ⟨0, _⟩ => rfl
    | ⟨1, _⟩ => rfl
    | ⟨2, _⟩ => rfl
  rw [e, wRow_eq]
  refine (pay121_at _ _ _ b g).trans ?_
  refine Finset.sum_congr (M := EReal) rfl fun j _ => ?_
  rw [tabV_at, maskV_at, pgIds_at]
  exact count_bit _ _ _
end Weights

end Cert.Paged

end
-- ==== Proof.Softmax.lean ====
/-
  THE ARITHMETIC OF A SOFTMAX TAKEN IN PARTS, over the extended reals.

  A running maximum `m`, sum `l` and accumulator `a` are kept. What `l` and `a` stand for is a function of the
  point `M` the exponentials are taken from: moving the point from `M` to `M'` multiplies it by `exp (M - M')`.
  Hence the quotient `a / l` does not depend on the point, which is all that a softmax's stability rests on.
-/
module

public import Idealize.ShloMosaic.Lib.Pointwise

@[expose] public section

noncomputable section

namespace Cert.Paged

open Idealize.ShloMosaic

/-- Multiplication by a real that is not negative goes through a sum. -/
theorem sum_mul_real {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (EReal.coe_nonneg.mpr hr) (EReal.coe_ne_top r), ih]

/-- A sum of terms that are not negative, times anything. -/
theorem sum_mul_of_nonneg {ι : Type} (s : Finset ι) (f : ι → EReal) (v : EReal) (hf : ∀ i ∈ s, 0 ≤ f i) : (∑ i ∈ s, f i) * v = ∑ i ∈ s, f i * v := by
  classical
  induction s using Finset.induction_on with
  | empty => simp
  | insert a s ha ih =>
    rw [Finset.sum_insert ha, Finset.sum_insert ha,
      EReal.right_distrib_of_nonneg (hf a (Finset.mem_insert_self a s)) (Finset.sum_nonneg fun i hi => hf i (Finset.mem_insert_of_mem hi)),
      ih fun i hi => hf i (Finset.mem_insert_of_mem hi)]

/-- A sum of reals is the real sum. -/
theorem sum_real {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The exponential of a difference of reals. -/
theorem exp_sub_real (a b : ℝ) : Ideal.exp ((a : EReal) - (b : EReal)) = ((Real.exp (a - b) : ℝ) : EReal) := by
  rw [← EReal.coe_sub]; rfl

/-- The least number, as a pattern. -/
theorem ofBits_bot : Ideal.ofBits .f32 0xFF800000#32 = ⊥ := by simp [Ideal.ofBits, Ideal.ieee]

/-- What changes by `exp (M - M')` when the point goes from `M` to `M'`. -/
def Shifts (T : ℝ → EReal) : Prop := ∀ M M' : ℝ, T M * Ideal.exp ((M : EReal) - (M' : EReal)) = T M'

theorem Shifts.zero : Shifts fun _ => 0 := fun _ _ => zero_mul _

theorem Shifts.add {S T : ℝ → EReal} (hS : Shifts S) (hT : Shifts T) : Shifts fun M => S M + T M := fun M M' => by
  have h := EReal.right_distrib_of_nonneg_of_ne_top (x := ((Real.exp (M - M') : ℝ) : EReal))
    (EReal.coe_nonneg.mpr (Real.exp_pos _).le) (EReal.coe_ne_top _) (S M) (T M)
  show (S M + T M) * _ = S M' + T M'
  rw [← hS M M', ← hT M M', exp_sub_real, h]

theorem Shifts.sum {ι : Type} (s : Finset ι) {T : ι → ℝ → EReal} (h : ∀ i, Shifts (T i)) : Shifts fun M => ∑ i ∈ s, T i M := fun M M' => by
  show (∑ i ∈ s, T i M) * _ = _
  rw [exp_sub_real, sum_mul_real _ _ _ (Real.exp_pos _).le, ← exp_sub_real]
  exact Finset.sum_congr rfl fun i _ => h i M M'

/-- One row's part. -/
theorem Shifts.term (s : ℝ) (n : EReal) : Shifts fun M => Ideal.exp ((s : EReal) - (M : EReal)) * n := fun M M' => by
  show Ideal.exp ((s : EReal) - (M : EReal)) * n * _ = Ideal.exp ((s : EReal) - (M' : EReal)) * n
  rw [exp_sub_real, exp_sub_real, exp_sub_real, mul_right_comm, ← EReal.coe_mul, ← Real.exp_add]
  rw [show s - M + (M - M') = s - M' by ring]

theorem coe_max (a b : ℝ) : ((max a b : ℝ) : EReal) = max (a : EReal) (b : EReal) := EReal.coe_strictMono.monotone.map_max

/-- The greatest of reals and `⊥`s, not all of them `⊥`, is real; so is the greatest of a real and any of these. -/
theorem fold_max_cases {ι : Type} (s : Finset ι) (f : ι → EReal) (hf : ∀ i ∈ s, f i = ⊥ ∨ ∃ r : ℝ, f i = r) :
    Finset.fold max ⊥ f s = ⊥ ∧ (∀ i ∈ s, f i = ⊥) ∨ ∃ r : ℝ, Finset.fold max ⊥ f s = r := by
  classical
  induction s using Finset.induction_on with
  | empty => exact Or.inl ⟨rfl, fun i hi => absurd hi (Finset.notMem_empty i)⟩
  | insert a s ha ih =>
    rw [Finset.fold_insert ha]
    rcases hf a (Finset.mem_insert_self a s) with h | ⟨r, h⟩ <;> rcases ih fun i hi => hf i (Finset.mem_insert_of_mem hi) with ⟨e, he⟩ | ⟨q, e⟩
    · refine Or.inl ⟨by rw [h, e]; simp, fun i hi => ?_⟩
      rcases Finset.mem_insert.mp hi with rfl | hi
      · exact h
      · exact he i hi
    · exact Or.inr ⟨q, by rw [h, e]; simp⟩
    · exact Or.inr ⟨r, by rw [h, e]; simp⟩
    · exact Or.inr ⟨max r q, by rw [h, e]; exact (coe_max r q).symm⟩

theorem max_fold_real {ι : Type} (s : Finset ι) (f : ι → ℝ) (M : ℝ) : ∃ r : ℝ, max (M : EReal) (Finset.fold max ⊥ (fun i => (f i : EReal)) s) = r := by
  rcases fold_max_cases s (fun i => (f i : EReal)) (fun i _ => Or.inr ⟨_, rfl⟩) with ⟨e, _⟩ | ⟨r, e⟩ <;> rw [e]
  · exact ⟨M, by simp⟩
  · exact ⟨max M r, (coe_max M r).symm⟩

/-- A maximum, a sum and an accumulator that stand for `L` and `A`. -/
def Holds (L A : ℝ → EReal) (m l a : EReal) : Prop := ∃ M : ℝ, m = M ∧ l = L M ∧ a = A M

/-- One block of rows taken in. -/
theorem Holds.step {ι : Type} [Fintype ι] {L A : ℝ → EReal} (hL : Shifts L) (hA : Shifts A) {m l a : EReal} (h : Holds L A m l a)
    (s : ι → ℝ) (w v : ι → EReal) {m' : EReal} (hm : m' = max m (Finset.fold max ⊥ (fun i => (s i : EReal)) Finset.univ)) :
    Holds (fun M => L M + ∑ i, Ideal.exp ((s i : EReal) - (M : EReal)) * w i) (fun M => A M + ∑ i, Ideal.exp ((s i : EReal) - (M : EReal)) * w i * v i)
      m' (l * Ideal.exp (m - m') + ∑ i, Ideal.exp ((s i : EReal) - m') * w i) (a * Ideal.exp (m - m') + ∑ i, Ideal.exp ((s i : EReal) - m') * w i * v i) := by
  obtain ⟨M, rfl, rfl, rfl⟩ := h
  obtain ⟨M', e⟩ := max_fold_real Finset.univ s M
  rw [e] at hm
  subst hm
  exact ⟨M', rfl, by rw [hL M M'], by rw [hA M M']⟩

/-- Two states joined: the quotient of the sums at one point. -/
theorem Holds.join {L A L' A' : ℝ → EReal} (hL : Shifts L) (hA : Shifts A) (hL' : Shifts L') (hA' : Shifts A') {m l a m' l' a' : EReal}
    (h : Holds L A m l a) (h' : Holds L' A' m' l' a') :
    ∃ M : ℝ, Ideal.div (a * Ideal.exp (m - max m m') + a' * Ideal.exp (m' - max m m')) (l * Ideal.exp (m - max m m') + l' * Ideal.exp (m' - max m m'))
      = Ideal.div (A M + A' M) (L M + L' M) := by
  obtain ⟨M, rfl, rfl, rfl⟩ := h
  obtain ⟨M', rfl, rfl, rfl⟩ := h'
  refine ⟨max M M', ?_⟩
  rw [show max (M : EReal) (M' : EReal) = ((max M M' : ℝ) : EReal) from (coe_max M M').symm, hL, hA, hL', hA']

/-- The quotient does not depend on the point. -/
theorem div_shift {L A : ℝ → EReal} (hL : Shifts L) (hA : Shifts A) (M R : ℝ) {z : ℝ} (hz : 0 < z) (e : L R = z) :
    Ideal.div (A M) (L M) = A R * ((z⁻¹ : ℝ) : EReal) := by
  have ht : 0 < Real.exp (R - M) := Real.exp_pos _
  rw [← hL R M, ← hA R M, e, exp_sub_real, ← EReal.coe_mul]
  unfold Ideal.div
  rw [if_neg (by rw [← EReal.coe_zero]; exact fun h => (mul_pos hz ht).ne' (EReal.coe_injective h)), ← EReal.coe_inv, mul_assoc, ← EReal.coe_mul]
  congr 2
  field_simp

end Cert.Paged

end
-- ==== Proof.KerValue.lean ====
/-
  WHAT A DEVICE LEAVES IN ITS RESULT, as a quotient of sums over the pages it and its mate hold.
-/
module

public import proofs.«01_k».proof.Proof.KerRead
public import proofs.«01_k».proof.Proof.Softmax
public import proofs.«01_k».proof.Proof.Loop

@[expose] public section

noncomputable section

namespace Cert.Paged

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

theorem ofBits_seed : ∃ r : ℝ, Ideal.ofBits .f32 0xF149F2CA#32 = r := by
  simp only [Ideal.ofBits, Ideal.ieee]
  exact ⟨_, rfl⟩
theorem ofBits_scale : ∃ r : ℝ, Ideal.ofBits .f32 0x3DB504F3#32 = r := by
  simp only [Ideal.ofBits, Ideal.ieee]
  exact ⟨_, rfl⟩

/-- The page, among a device's, and the row in it, of row `x` of chunk `p`. -/
def pgOf (p : Fin 8) (x : Fin 1024) : Fin 512 := ⟨64 * p.val + x.val / 16, by omega⟩
def rwOf (x : Fin 1024) : Fin 16 := ⟨x.val % 16, by omega⟩

/-- An entry of the queries, of the pages, of the weights, as a number. -/
abbrev qv (X : ConQ Ideal) (b h : Fin 8) (y : Fin 128) : EReal := X (ix4 b 0 h y)
abbrev pv (X : ConPg Ideal) (g : Fin 512) (r : Fin 16) (h : Fin 8) (d : Fin 128) : EReal := X (ix4 g r h d)
abbrev wv (W : ConW Ideal) (p b : Fin 8) (g : Fin 64) : EReal := W (ix3 p b g)

section Heads
variable (XQ : ConQ Ideal) (XK XV : ConPg Ideal) (h b : Fin 8) (d : Fin 128)

/-- A score: request `b`'s query with row `r` of page `g`, at head `h`. -/
def score (g : Fin 512) (r : Fin 16) : EReal := (∑ y : Fin 128, qv XQ b h y * pv XK g r h y) * Ideal.ofBits .f32 0x3DB504F3#32

/-- A head's state stands for `L` and `A` at request `b` and lane `d`. -/
abbrev HoldsAt (L A : ℝ → EReal) (st : Hd Ideal) : Prop := Holds L A (st.1 (ix2 b 0)) (st.2.1 (ix2 b 0)) (st.2.2 (ix2 b d))

/-- One chunk taken in. -/
theorem step_holds (s : Fin 2) (p : Fin 8) (w : FVec Ideal S8x1024 .f32) (st : Hd Ideal) (σ : Fin 512 → Fin 16 → ℝ)
    (hσ : ∀ g r, score XQ XK h b g r = σ g r) {L A : ℝ → EReal} (hL : Shifts L) (hA : Shifts A) (H : HoldsAt b d L A st) :
    HoldsAt b d (fun M => L M + ∑ x : Fin 1024, Ideal.exp ((σ (pgOf p x) (rwOf x) : EReal) - (M : EReal)) * w (ix2 b x))
      (fun M => A M + ∑ x : Fin 1024, Ideal.exp ((σ (pgOf p x) (rwOf x) : EReal) - (M : EReal)) * w (ix2 b x) * pv XV (pgOf p x) (rwOf x) h d)
      (stepHd XQ XK XV s p w h st) := by
  have e4 : ∀ x, k0_pay4 (k0_pay3 (qAt XQ h)) (pgAt (slotCont XK p) s h) (ix2 b x) = (σ (pgOf p x) (rwOf x) : EReal) := fun x => by
    rw [pay4_at, ← hσ]
    unfold score
    refine congrArg (· * _) (Finset.sum_congr rfl fun y _ => ?_)
    rw [pay3_at, qAt_at, pgAt_at]
    rfl
  have e5 : k0_pay5 st.1 (k0_pay3 (qAt XQ h)) (pgAt (slotCont XK p) s h) (ix2 b 0)
      = max (st.1 (ix2 b 0)) (Finset.fold max ⊥ (fun x => (σ (pgOf p x) (rwOf x) : EReal)) Finset.univ) := by
    rw [pay5_at, ofBits_bot]
    simp only [e4]
  have key := H.step hL hA (fun x => σ (pgOf p x) (rwOf x)) (fun x => w (ix2 b x)) (fun x => pv XV (pgOf p x) (rwOf x) h d) e5
  have e8 := pay8_at st.1 st.2.1 w (k0_pay3 (qAt XQ h)) (pgAt (slotCont XK p) s h) b
  have e9 := pay9_at st.1 st.2.2 w (k0_pay3 (qAt XQ h)) (pgAt (slotCont XK p) s h) (pgAt (slotCont XV p) s h) b d
  simp only [e4] at e8 e9
  simp only [pgAt_at] at e9
  unfold HoldsAt stepHd
  dsimp only
  rw [e8, e9]
  exact key

/-- The sums over one chunk. -/
def chunkL (σ : Fin 512 → Fin 16 → ℝ) (W : ConW Ideal) (p : Fin 8) (M : ℝ) : EReal :=
  ∑ x : Fin 1024, Ideal.exp ((σ (pgOf p x) (rwOf x) : EReal) - (M : EReal)) * wv W p b ⟨x.val / 16, by omega⟩
def chunkA (σ : Fin 512 → Fin 16 → ℝ) (W : ConW Ideal) (p : Fin 8) (M : ℝ) : EReal :=
  ∑ x : Fin 1024, Ideal.exp ((σ (pgOf p x) (rwOf x) : EReal) - (M : EReal)) * wv W p b ⟨x.val / 16, by omega⟩ * pv XV (pgOf p x) (rwOf x) h d

theorem chunkL_shifts (σ : Fin 512 → Fin 16 → ℝ) (W : ConW Ideal) (p : Fin 8) : Shifts (chunkL b σ W p) :=
  Shifts.sum _ fun _ => Shifts.term _ _
theorem chunkA_shifts (σ : Fin 512 → Fin 16 → ℝ) (W : ConW Ideal) (p : Fin 8) : Shifts (chunkA XV h b d σ W p) :=
  Shifts.sum _ fun x M M' => by
    have e := Shifts.term (σ (pgOf p x) (rwOf x)) (wv W p b ⟨x.val / 16, by omega⟩ * pv XV (pgOf p x) (rwOf x) h d) M M'
    simpa only [mul_assoc] using e

/-- After `k` trips: the sums over the first `2 k` chunks. -/
theorem trips_hold (W : ConW Ideal) (σ : Fin 512 → Fin 16 → ℝ) (hσ : ∀ g r, score XQ XK h b g r = σ g r) :
    ∀ k ≤ 4, HoldsAt b d (fun M => ∑ n ∈ Finset.range (2 * k), chunkL b σ W (Fin.ofNat 8 n) M)
      (fun M => ∑ n ∈ Finset.range (2 * k), chunkA XV h b d σ W (Fin.ofNat 8 n) M) (stAt XQ XK XV W k h)
  | 0, _ => by
    obtain ⟨r, hr⟩ := ofBits_seed
    refine ⟨r, ?_, ?_, ?_⟩
    · exact (pay131_at b).trans hr
    · refine (pay139_at b).trans ?_
      rw [Ideal.ofBits_zero_f32]; simp
    · refine (pay147_at b d).trans ?_
      rw [Ideal.ofBits_zero_f32]; simp
  | k + 1, hk => by
    have ih := trips_hold W σ hσ k (by omega)
    have hk' : k < k0_t1_loop.trips := by rw [trips_eq]; omega
    rw [stAt_succ XQ XK XV W ⟨k, hk'⟩]
    have hL : Shifts fun M => ∑ n ∈ Finset.range (2 * k), chunkL b σ W (Fin.ofNat 8 n) M := Shifts.sum _ fun n => chunkL_shifts b σ W _
    have hA : Shifts fun M => ∑ n ∈ Finset.range (2 * k), chunkA XV h b d σ W (Fin.ofNat 8 n) M := Shifts.sum _ fun n => chunkA_shifts XV h b d σ W _
    have s1 := step_holds XQ XK XV h b d 0 (ev k) (wEv W ⟨k, hk'⟩) (stAt XQ XK XV W k h) σ hσ hL hA ih
    simp only [wEv_at] at s1
    have s2 := step_holds XQ XK XV h b d 1 (od k) (wOd W ⟨k, hk'⟩) _ σ hσ (hL.add (chunkL_shifts b σ W (ev k))) (hA.add (chunkA_shifts XV h b d σ W (ev k))) s1
    simp only [wOd_at] at s2
    have e : 2 * (k + 1) = 2 * k + 1 + 1 := by ring
    simp only [e, Finset.sum_range_succ]
    exact s2

/-- After the last trip: the sums over all eight chunks. -/
theorem loop_holds (W : ConW Ideal) (σ : Fin 512 → Fin 16 → ℝ) (hσ : ∀ g r, score XQ XK h b g r = σ g r) :
    HoldsAt b d (fun M => ∑ p : Fin 8, chunkL b σ W p M) (fun M => ∑ p : Fin 8, chunkA XV h b d σ W p M) (stAt XQ XK XV W 4 h) := by
  have e := trips_hold XQ XK XV h b d W σ hσ 4 le_rfl
  have hp : ∀ p : Fin 8, Fin.ofNat 8 p.val = p := by decide
  simpa only [Nat.reduceMul, Finset.sum_range, hp] using e
end Heads

/-- The result, from the state, and from what the mate sent. -/
theorem outAll_holds (st st' : Fin 8 → Hd Ideal) (b h : Fin 8) (d : Fin 128) {L A L' A' : ℝ → EReal} (hL : Shifts L) (hA : Shifts A) (hL' : Shifts L') (hA' : Shifts A')
    (H : HoldsAt b d L A (st h)) (H' : HoldsAt b d L' A' (st' h)) :
    ∃ M : ℝ, outAll st (oAll st') (tAll st') (ix4 b 0 h d) = Ideal.div (A M + A' M) (L M + L' M) := by
  have e : outAll st (oAll st') (tAll st') (ix4 b 0 h d) = outHd st (oAll st') (tAll st') h (ix4 b 0 0 d) := by
    unfold outAll
    refine congrArg (outHd st (oAll st') (tAll st') h) (funext fun a => ?_)
    match a with
    | ⟨0, _⟩ => rfl
    | ⟨1, _⟩ => rfl
    | ⟨2, _⟩ => rfl
    | ⟨3, _⟩ => rfl
  have ix : ∀ (i : Fin 8) (j : Fin 128), ix3' (0 : Fin 1) i j = ix3 0 i j := fun i j => funext fun a => by
    match a with
    | ⟨0, _⟩ => rfl
    | ⟨1, _⟩ => rfl
    | ⟨2, _⟩ => rfl
  have ix' : ∀ (i : Fin 8), ix3' (0 : Fin 1) i (0 : Fin 1) = ix3 0 i 0 := fun i => funext fun a => by
    match a with
    | ⟨0, _⟩ => rfl
    | ⟨1, _⟩ => rfl
    | ⟨2, _⟩ => rfl
  have t0 : tAll st' (ix3 0 b h) = (st' h).1 (ix2 b 0) := by
    show tRow (st' h) 0 (ix3' 0 b 0) = _
    rw [ix']; exact pay160_at _ b
  have t1 : tAll st' (ix3 1 b h) = (st' h).2.1 (ix2 b 0) := by
    show tRow (st' h) 1 (ix3' 0 b 0) = _
    rw [ix']; exact pay161_at _ b
  have o : oAll st' (ix3 h b d) = (st' h).2.2 (ix2 b d) := by
    show oRow (st' h) (ix3' 0 b d) = _
    rw [ix]; exact pay159_at _ b d
  obtain ⟨M, hM⟩ := Holds.join hL hA hL' hA' H H'
  refine ⟨M, ?_⟩
  rw [e]
  unfold outHd
  rw [pay183_at, tIn_at, tIn_at, oIn_at, t0, t1, o]
  exact hM

end Cert.Paged

end
-- ==== Proof.RefRead.lean ====
/-
  THE REFERENCE, ENTRY BY ENTRY: what it returns, cut in named pieces, each read at one place.
-/
module

public import proofs.«01_k».proof.Proof.Gen.ReferenceIdeal.Run
public import Idealize.ShloMosaic.Lib.Pointwise

@[expose] public section

noncomputable section

namespace Cert.Paged.Ref

open Cert.ReferenceIdeal Cert.ReferenceIdeal.Gen
open Idealize.ShloMosaic
open Idealize.ShloMosaic.TcCoe Idealize.ShloMosaic.Tactic

/-- The contents of an array of this shape. -/
abbrev TPages := FVec Ideal S1024x16x8x128 .f32
/-- The contents of an array of this shape. -/
abbrev TQuery := FVec Ideal S8x1x8x128 .f32
/-- The contents of an array of this shape. -/
abbrev TTable := IVec S8x512 32
/-- The contents of an array of this shape. -/
abbrev TLens := IVec S8 32
/-- The contents of an array of this shape. -/
abbrev TScores := FVec Ideal S8x8x1x8192 .f32

/-- The page each table entry names, as the gather takes it. -/
def pageIx (bt : TTable) : IVec S8x512x1 32 :=
  broadcastInDim S8x512x1 ![0, 1] bcast_S8x512_S8x512x1_0_1 (select (cmpi .slt bt (broadcastInDim S8x512 ![] bcast_S_S8x512 (constantI S_ 32 0#32))) (addi bt (broadcastInDim S8x512 ![] bcast_S_S8x512 (constantI S_ 32 1024#32))) bt)

/-- The rows of the pages that the table names, in the table's order. -/
def rows (X : TPages) (bt : TTable) : FVec Ideal S8x8192x8x128 .f32 :=
  shapeCast _ (Host.gather gather_S1024x16x8x128_S8x512x1_S8x512x16x8x128_234_0_n_n_0_2_1168128 X (pageIx bt)) shapeCasts_S8x512x16x8x128_S8x8192x8x128

/-- Which rows a request attends. -/
def live (lens : TLens) : IVec S8x1x1x8192 1 :=
  cmpi .slt (broadcastInDim S8x1x1x8192 ![0, 1, 2, 3] bcast_S1x1x1x8192_S8x1x1x8192_0_1_2_3 (shapeCast _ (iotaInDim S1x512x16 32 1) shapeCasts_S1x512x16_S1x1x1x8192)) (broadcastInDim S8x1x1x8192 ![0, 1, 2, 3] bcast_S8x1x1x1_S8x1x1x8192_0_1_2_3 (shapeCast _ lens shapeCasts_S8_S8x1x1x1))

/-- The masked scores. -/
def scores (Q : TQuery) (K : TPages) (bt : TTable) (lens : TLens) : TScores :=
  select (broadcastInDim S8x8x1x8192 ![0, 1, 2, 3] bcast_S8x1x1x8192_S8x8x1x8192_0_1_2_3 (live lens)) (mulf (Host.dotGeneral (F := Ideal) dot_S8x1x8x128_S8x8192x8x128_S8x8x1x8192_3_3_1_1_02_02 none Q (rows K bt)) (broadcastInDim S8x8x1x8192 ![] bcast_S_S8x8x1x8192 (constant S_ .f32 0x3DB504F3#32))) (broadcastInDim S8x8x1x8192 ![] bcast_S_S8x8x1x8192 (constant S_ .f32 0xFF800000#32))

/-- The largest score of each request and head. -/
def top (S : TScores) : FVec Ideal S8x8x1 .f32 :=
  Host.reduce (FloatOps.maximumf (F := Ideal)) S (constant (F := Ideal) S_ .f32 0xFF800000#32) reducesTo_S8x8x1x8192_S8x8x1_d3 h_S_

/-- The exponentials of the scores less the largest. -/
def expo (S : TScores) : TScores :=
  Host.exp (F := Ideal) (subf S (broadcastInDim S8x8x1x8192 ![0, 1, 2, 3] bcast_S8x8x1x1_S8x8x1x8192_0_1_2_3 (broadcastInDim S8x8x1x1 ![0, 1, 2] bcast_S8x8x1_S8x8x1x1_0_1_2 (top S))))

/-- Their sum. -/
def total (E : TScores) : FVec Ideal S8x8x1 .f32 :=
  Host.reduceAdd (F := Ideal) E (constant (F := Ideal) S_ .f32 0x0#32) reducesTo_S8x8x1x8192_S8x8x1_d3 h_S_

/-- The weights of the softmax. -/
def soft (E : TScores) : TScores :=
  Host.divf (F := Ideal) E (broadcastInDim S8x8x1x8192 ![0, 1, 2, 3] bcast_S8x8x1x1_S8x8x1x8192_0_1_2_3 (broadcastInDim S8x8x1x1 ![0, 1, 2] bcast_S8x8x1_S8x8x1x1_0_1_2 (total E)))

/-- The attention. -/
def out (Q : TQuery) (K V : TPages) (bt : TTable) (lens : TLens) : TQuery :=
  transpose S8x1x8x128 [0, 3, 1, 2] (Host.dotGeneral (F := Ideal) dot_S8x8192x8x128_S8x8x1x8192_S8x8x128x1_1_3_3_2_02_01 none (rows V bt) (soft (expo (scores Q K bt lens)))) transposes_S8x8x128x1_S8x1x8x128_0_3_1_2

/-- What the reference returns. -/
theorem res_eq (m : (ℓ : Loc nD τ sig) → Buf (Elt Ideal) ℓ) (c : Dev nD) :
    Value.res_main_v36 (F := Ideal) m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-- A gathered row: the page's row, the page number clamped to the pages there are. -/
theorem gather_row (X : TPages) (ix : IVec S8x512x1 32) (b : Fin 8) (p : Fin 512) (r : Fin 16) (h : Fin 8) (d : Fin 128) :
    Host.gather gather_S1024x16x8x128_S8x512x1_S8x512x16x8x128_234_0_n_n_0_2_1168128 X ix (ix5 b p r h d)
      = X (ix4 ⟨min (ix (ix3 b p 0)).toInt.toNat 1023, by omega⟩ r h d) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil, Nat.add_zero]
  have h4 : a = (0 : Fin 4) ∨ a = (1 : Fin 4) ∨ a = (2 : Fin 4) ∨ a = (3 : Fin 4) := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h4 with rfl | rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 4) ∈ (gather_S1024x16x8x128_S8x512x1_S8x512x16x8x128_234_0_n_n_0_2_1168128).startIndexMap from List.mem_singleton.mpr rfl)]
    have hsi : (gather_S1024x16x8x128_S8x512x1_S8x512x16x8x128_234_0_n_n_0_2_1168128).siIdx (ix5 b p r h d) ⟨List.idxOf (0 : Fin 4) (gather_S1024x16x8x128_S8x512x1_S8x512x16x8x128_234_0_n_n_0_2_1168128).startIndexMap,
        List.idxOf_lt_length_iff.2 (List.mem_singleton.mpr rfl)⟩ = ix3 b p 0 := by
      funext b; refine Fin.ext ?_
      match b with
      | ⟨0, _⟩ => rfl
      | ⟨1, _⟩ => rfl
      | ⟨2, _⟩ => rfl
    rw [hsi]
    rfl
  all_goals
    unfold GatherDims.start GatherDims.offCoord
    rw [dif_neg (by decide), dif_pos (by decide), Nat.zero_add]
    rfl

/-- A row of the gathered pages. -/
theorem rows_at (X : TPages) (bt : TTable) (b : Fin 8) (k : Fin 8192) (h : Fin 8) (d : Fin 128) :
    rows X bt (ix4 b k h d) = X (ix4 ⟨min (pageIx bt (ix3 b ⟨k.val / 16, by omega⟩ 0)).toInt.toNat 1023, by omega⟩ ⟨k.val % 16, by omega⟩ h d) := by
  refine Eq.trans ?_ (gather_row X (pageIx bt) b ⟨k.val / 16, by omega⟩ ⟨k.val % 16, by omega⟩ h d)
  unfold rows
  generalize pageIx bt = ix
  pointwise []

/-- The entry the gather takes. -/
theorem pageIx_at (bt : TTable) (b : Fin 8) (p : Fin 512) :
    pageIx bt (ix3 b p 0) = Scalar.select (IntOp.cmpi .slt (bt (ix2 b p)) 0#32) (IntOp.addi (bt (ix2 b p)) 1024#32) (bt (ix2 b p)) := by
  pointwise [pageIx]

/-- A row is attended where its page comes before the request's length. -/
theorem live_at (lens : TLens) (b : Fin 8) (k : Fin 8192) :
    live lens (ix4 b 0 0 k) = IntOp.cmpi .slt (BitVec.ofNat 32 (k.val / 16)) (lens (ix1 b)) := by
  pointwise [live]

/-- A masked score. -/
theorem scores_at (Q : TQuery) (K : TPages) (bt : TTable) (lens : TLens) (b h : Fin 8) (k : Fin 8192) :
    scores Q K bt lens (ix4 b h 0 k) = Scalar.select (IntOp.cmpi .slt (BitVec.ofNat 32 (k.val / 16)) (lens (ix1 b)))
      ((∑ d, Q (ix4 b 0 h d) * rows K bt (ix4 b k h d)) * Ideal.ofBits .f32 0x3DB504F3#32) (Ideal.ofBits .f32 0xFF800000#32) := by
  unfold scores
  pointwise [live]

/-- The largest score. -/
theorem top_at (S : TScores) (b h : Fin 8) : top S (ix3 b h 0) = Finset.fold max (Ideal.ofBits .f32 0xFF800000#32) (fun k => S (ix4 b h 0 k)) Finset.univ := by
  pointwise [top]

/-- An exponential. -/
theorem expo_at (S : TScores) (b h : Fin 8) (k : Fin 8192) : expo S (ix4 b h 0 k) = Ideal.exp (S (ix4 b h 0 k) - top S (ix3 b h 0)) := by
  unfold expo
  generalize top S = t
  pointwise []

/-- The sum of the exponentials. -/
theorem total_at (S : TScores) (b h : Fin 8) : total S (ix3 b h 0) = ∑ k, S (ix4 b h 0 k) := by
  pointwise [total]

/-- A weight. -/
theorem soft_at (S : TScores) (b h : Fin 8) (k : Fin 8192) : soft S (ix4 b h 0 k) = Ideal.div (S (ix4 b h 0 k)) (total S (ix3 b h 0)) := by
  unfold soft
  generalize total S = t
  pointwise []

/-- An entry of the attention. -/
theorem out_at (Q : TQuery) (K V : TPages) (bt : TTable) (lens : TLens) (b h : Fin 8) (d : Fin 128) :
    out Q K V bt lens (ix4 b 0 h d) = ∑ k, rows V bt (ix4 b k h d) * soft (expo (scores Q K bt lens)) (ix4 b h 0 k) := by
  unfold out
  generalize rows V bt = v
  generalize soft _ = s
  pointwise []

end Cert.Paged.Ref

end
-- ==== Proof.Regroup.lean ====
/-
  SUMS OVER PAGES AND SUMS OVER TABLE ENTRIES.

  The kernel sums over the pages, each page with the number of entries that name it; the reference sums over the
  entries, each with the page it names. The two sums have the same terms.
-/
module

public import proofs.«01_k».proof.Proof.Softmax

@[expose] public section

noncomputable section

namespace Cert.Paged

open Idealize.ShloMosaic

/-- A sum over `n * k` places, in `n` runs of `k`. -/
theorem sum_runs (n k : ℕ) (f : Fin (n * k) → EReal) :
    ∑ x, f x = ∑ a : Fin n, ∑ b : Fin k, f ⟨k * a.val + b.val, by
      have ha := a.isLt; have hb := b.isLt
      calc k * a.val + b.val < k * a.val + k := by omega
        _ = k * (a.val + 1) := by ring
        _ ≤ k * n := Nat.mul_le_mul_left k ha
        _ = n * k := Nat.mul_comm k n⟩ := by
  rw [← Fintype.sum_prod_type', ← Equiv.sum_comp finProdFinEquiv]
  refine Finset.sum_congr rfl fun q _ => congrArg f (Fin.ext ?_)
  show q.2.val + k * q.1.val = k * q.1.val + q.2.val
  omega

/-- Pages in chunks of sixty-four, sixteen rows each. -/
theorem sum_chunks (F : Fin 512 → Fin 16 → EReal) :
    ∑ p : Fin 8, ∑ x : Fin 1024, F ⟨64 * p.val + x.val / 16, by omega⟩ ⟨x.val % 16, by omega⟩ = ∑ g : Fin 512, ∑ r : Fin 16, F g r := by
  have e := sum_runs 8 64 fun g => ∑ r : Fin 16, F ⟨g.val, g.isLt⟩ r
  refine Eq.trans ?_ e.symm
  refine Finset.sum_congr rfl fun p _ => ?_
  refine (sum_runs 64 16 fun x => F ⟨64 * p.val + x.val / 16, by have := x.isLt; omega⟩ ⟨x.val % 16, by omega⟩).trans ?_
  refine Finset.sum_congr rfl fun a _ => Finset.sum_congr rfl fun r _ => ?_
  refine congr (congrArg F (Fin.ext ?_)) (Fin.ext ?_)
  · show 64 * p.val + (16 * a.val + r.val) / 16 = 64 * p.val + a.val; omega
  · show (16 * a.val + r.val) % 16 = r.val; omega

/-- Table entries with sixteen rows each. -/
theorem sum_entries (F : Fin 512 → Fin 16 → EReal) :
    ∑ k : Fin 8192, F ⟨k.val / 16, by omega⟩ ⟨k.val % 16, by omega⟩ = ∑ j : Fin 512, ∑ r : Fin 16, F j r := by
  refine (sum_runs 512 16 fun x => F ⟨x.val / 16, by have := x.isLt; omega⟩ ⟨x.val % 16, by omega⟩).trans ?_
  refine Finset.sum_congr rfl fun a _ => Finset.sum_congr rfl fun r _ => ?_
  refine congr (congrArg F (Fin.ext ?_)) (Fin.ext ?_)
  · show (16 * a.val + r.val) / 16 = a.val; omega
  · show (16 * a.val + r.val) % 16 = r.val; omega

/-- Page `g` of half `x` of the pages. -/
def half (x : Fin 2) (g : Fin 512) : Fin 1024 := ⟨512 * x.val + g.val, by omega⟩

/-- The two halves of the pages, in either order. -/
theorem sum_halves (x y : Fin 2) (hxy : y ≠ x) (f : Fin 1024 → EReal) :
    ∑ g : Fin 512, f (half x g) + ∑ g : Fin 512, f (half y g) = ∑ G : Fin 1024, f G := by
  have e := (sum_runs 2 512 f).trans (Fin.sum_univ_two _)
  have h0 : ∀ g : Fin 512, f (half 0 g) = f ⟨512 * (0 : Fin 2).val + g.val, by have := g.isLt; show 512 * 0 + _ < _; omega⟩ := fun _ => rfl
  rw [e]
  match x, y, hxy with
  | 0, 0, h => exact absurd rfl h
  | 0, 1, _ => rfl
  | 1, 0, _ => exact add_comm _ _
  | 1, 1, h => exact absurd rfl h

section Counts
variable (bt : Fin 512 → BitVec 32) (live : Fin 512 → Prop) [DecidablePred live]

/-- How many entries that count name page `G`. -/
def named (G : Fin 1024) : EReal := ∑ j : Fin 512, if bt j = BitVec.ofNat 32 G.val ∧ live j then (1 : EReal) else 0

/-- Terms times counts, summed over the pages, are the terms summed over the entries that count. -/
theorem sum_named (pg : Fin 512 → Fin 1024) (hpg : ∀ j, live j → bt j = BitVec.ofNat 32 (pg j).val) (f : Fin 1024 → Fin 16 → EReal) :
    ∑ G : Fin 1024, ∑ r : Fin 16, named bt live G * f G r = ∑ j : Fin 512, ∑ r : Fin 16, if live j then f (pg j) r else 0 := by
  have e1 : ∀ G r, named bt live G * f G r = ∑ j : Fin 512, if bt j = BitVec.ofNat 32 G.val ∧ live j then f G r else 0 := fun G r => by
    unfold named
    rw [sum_mul_of_nonneg _ _ _ fun j _ => by split_ifs <;> simp]
    refine Finset.sum_congr rfl fun j _ => ?_
    split_ifs <;> simp
  have e2 : ∀ G, ∑ r : Fin 16, named bt live G * f G r = ∑ j : Fin 512, ∑ r : Fin 16, if bt j = BitVec.ofNat 32 G.val ∧ live j then f G r else 0 := fun G => by
    rw [Finset.sum_comm]
    exact Finset.sum_congr rfl fun r _ => e1 G r
  rw [Finset.sum_congr rfl fun G _ => e2 G, Finset.sum_comm]
  refine Finset.sum_congr rfl fun j _ => ?_
  by_cases hl : live j
  · rw [Finset.sum_eq_single (pg j)]
    · exact Finset.sum_congr rfl fun r _ => by rw [if_pos ⟨hpg j hl, hl⟩, if_pos hl]
    · intro G _ hG
      refine Finset.sum_eq_zero fun r _ => if_neg fun h => hG (Fin.ext ?_)
      have e := h.1.symm.trans (hpg j hl)
      have e' := congrArg BitVec.toNat e
      have h1 := G.isLt; have h2 := (pg j).isLt
      simp only [BitVec.toNat_ofNat] at e'
      omega
    · exact fun h => absurd (Finset.mem_univ _) h
  · rw [Finset.sum_eq_zero fun G _ => Finset.sum_eq_zero fun r _ => if_neg fun h => hl h.2]
    exact (Finset.sum_eq_zero fun r _ => if_neg hl).symm
end Counts

end Cert.Paged

end
-- ==== Proof.RefValue.lean ====
/-
  WHAT THE REFERENCE RETURNS, as a quotient of sums over the table entries that count.
-/
module

public import proofs.«01_k».proof.Proof.RefRead
public import proofs.«01_k».proof.Proof.Regroup

@[expose] public section

noncomputable section

namespace Cert.Paged

open Idealize.ShloMosaic

section
variable (Q : Ref.TQuery) (K V : Ref.TPages) (bt : Ref.TTable) (lens : Ref.TLens) (b h : Fin 8) (d : Fin 128)

/-- A score: request `b`'s query with row `r` of page `G`, at head `h`. -/
def scoreW (G : Fin 1024) (r : Fin 16) : EReal :=
  (∑ y : Fin 128, (Q (ix4 b 0 h y) : EReal) * (K (ix4 G r h y) : EReal)) * Ideal.ofBits .f32 0x3DB504F3#32

/-- The page that entry `j` of request `b`'s table names. -/
def pgN (j : Fin 512) : Fin 1024 := ⟨min (Ref.pageIx bt (ix3 b j 0)).toInt.toNat 1023, by omega⟩

/-- Entry `j` of request `b`'s table counts. -/
abbrev liveN (j : Fin 512) : Prop := IntOp.cmpi .slt (BitVec.ofNat 32 j.val) (lens (ix1 b)) = 1#1

/-- An entry within the pages names the page of its number. -/
theorem pgN_eq (j : Fin 512) (h0 : 0 ≤ (bt (ix2 b j)).toInt) (h1 : (bt (ix2 b j)).toInt < 1024) : bt (ix2 b j) = BitVec.ofNat 32 (pgN bt b j).val := by
  have e : Ref.pageIx bt (ix3 b j 0) = bt (ix2 b j) := by
    rw [Ref.pageIx_at]
    have hs : IntOp.cmpi .slt (bt (ix2 b j)) 0#32 = 0#1 := by
      show BitVec.ofBool ((bt (ix2 b j)).slt 0#32) = 0#1
      have : (bt (ix2 b j)).slt 0#32 = false := by
        rw [Bool.eq_false_iff, ne_eq, BitVec.slt_iff_toInt_lt]
        simpa using h0
      rw [this]; rfl
    rw [hs]; rfl
  have ev : (pgN bt b j).val = min (bt (ix2 b j)).toInt.toNat 1023 := by
    show min (Ref.pageIx bt (ix3 b j 0)).toInt.toNat 1023 = _
    rw [e]
  apply BitVec.eq_of_toInt_eq
  rw [ev, BitVec.toInt_ofNat']
  generalize (bt (ix2 b j)).toInt = t at *
  rw [Int.bmod_eq_of_le] <;> omega

variable (S : Fin 1024 → Fin 16 → ℝ) (hS : ∀ G r, scoreW Q K b h G r = S G r) (hl : 1 ≤ (lens (ix1 b)).toInt)
include hS hl

/-- The reference's entry: a quotient of sums of exponentials taken from some point `R`. -/
theorem ref_value : ∃ R z : ℝ, 0 < z
    ∧ (∑ j : Fin 512, ∑ r : Fin 16, if liveN lens b j then Ideal.exp ((S (pgN bt b j) r : EReal) - (R : EReal)) else 0) = (z : EReal)
    ∧ (Ref.out Q K V bt lens (ix4 b 0 h d) : EReal)
      = (∑ j : Fin 512, ∑ r : Fin 16, if liveN lens b j then Ideal.exp ((S (pgN bt b j) r : EReal) - (R : EReal)) * (V (ix4 (pgN bt b j) r h d) : EReal) else 0)
        * ((z⁻¹ : ℝ) : EReal) := by
  have hsc : ∀ k : Fin 8192, (Ref.scores Q K bt lens (ix4 b h 0 k) : EReal)
      = if liveN lens b ⟨k.val / 16, by omega⟩ then (S (pgN bt b ⟨k.val / 16, by omega⟩) ⟨k.val % 16, by omega⟩ : EReal) else ⊥ := fun k => by
    rw [Ref.scores_at, ofBits_bot, ← hS]
    simp only [Ref.rows_at]
    by_cases hq : liveN lens b ⟨k.val / 16, by omega⟩
    · rw [if_pos hq, show IntOp.cmpi .slt (BitVec.ofNat 32 (k.val / 16)) (lens (ix1 b)) = 1#1 from hq]; rfl
    · rw [if_neg hq, (BitVec.eq_zero_or_eq_one _).resolve_right hq]; rfl
  have h0 : liveN lens b 0 := by
    show BitVec.ofBool (BitVec.slt (0#32) (lens (ix1 b))) = 1#1
    rw [(BitVec.slt_iff_toInt_lt).mpr (by rw [BitVec.toInt_zero]; omega)]; rfl
  obtain ⟨R, hR⟩ : ∃ R : ℝ, (Ref.top (Ref.scores Q K bt lens) (ix3 b h 0) : EReal) = R := by
    rw [Ref.top_at, ofBits_bot]
    rcases fold_max_cases Finset.univ (fun k => (Ref.scores Q K bt lens (ix4 b h 0 k) : EReal)) (fun k _ => by
      rw [hsc]; split_ifs
      · exact Or.inr ⟨_, rfl⟩
      · exact Or.inl rfl) with ⟨_, e⟩ | e
    · have e0 := e 0 (Finset.mem_univ _)
      rw [hsc] at e0
      rw [if_pos (show liveN lens b ⟨(0 : Fin 8192).val / 16, by omega⟩ from h0)] at e0
      exact absurd e0 (EReal.coe_ne_bot _)
    · exact e
  have hE : ∀ k : Fin 8192, (Ref.expo (Ref.scores Q K bt lens) (ix4 b h 0 k) : EReal)
      = if liveN lens b ⟨k.val / 16, by omega⟩ then ((Real.exp (S (pgN bt b ⟨k.val / 16, by omega⟩) ⟨k.val % 16, by omega⟩ - R) : ℝ) : EReal) else 0 := fun k => by
    refine (Ref.expo_at _ b h k).trans ?_
    rw [hR, hsc]
    split_ifs
    · exact exp_sub_real _ _
    · rw [EReal.bot_sub]; rfl
  have hE' : ∀ k : Fin 8192, (Ref.expo (Ref.scores Q K bt lens) (ix4 b h 0 k) : EReal)
      = ((if liveN lens b ⟨k.val / 16, by omega⟩ then Real.exp (S (pgN bt b ⟨k.val / 16, by omega⟩) ⟨k.val % 16, by omega⟩ - R) else 0 : ℝ) : EReal) := fun k => by
    rw [hE]; split_ifs <;> rfl
  let z : ℝ := ∑ k : Fin 8192, if liveN lens b ⟨k.val / 16, by omega⟩ then Real.exp (S (pgN bt b ⟨k.val / 16, by omega⟩) ⟨k.val % 16, by omega⟩ - R) else 0
  have hz : (Ref.total (Ref.expo (Ref.scores Q K bt lens)) (ix3 b h 0) : EReal) = (z : EReal) := by
    refine (Ref.total_at _ b h).trans ?_
    rw [← sum_real]
    exact Finset.sum_congr (M := EReal) rfl fun k _ => hE' k
  have hzp : 0 < z := by
    refine Finset.sum_pos' (fun k _ => by split_ifs; exacts [(Real.exp_pos _).le, le_rfl]) ⟨0, Finset.mem_univ _, ?_⟩
    rw [if_pos (show liveN lens b ⟨(0 : Fin 8192).val / 16, by omega⟩ from h0)]
    exact Real.exp_pos _
  have hsoft : ∀ k : Fin 8192, (Ref.soft (Ref.expo (Ref.scores Q K bt lens)) (ix4 b h 0 k) : EReal)
      = (Ref.expo (Ref.scores Q K bt lens) (ix4 b h 0 k) : EReal) * ((z⁻¹ : ℝ) : EReal) := fun k => by
    refine (Ref.soft_at _ b h k).trans ?_
    rw [hz]
    unfold Ideal.div
    rw [if_neg (by rw [← EReal.coe_zero]; exact fun e => hzp.ne' (EReal.coe_injective e)), EReal.coe_inv]
  refine ⟨R, z, hzp, ?_, ?_⟩
  · rw [← hz]
    refine Eq.trans ?_ (Ref.total_at _ b h).symm
    refine (sum_entries fun j r => if liveN lens b j then Ideal.exp ((S (pgN bt b j) r : EReal) - (R : EReal)) else 0).symm.trans ?_
    refine Finset.sum_congr (M := EReal) rfl fun k _ => ?_
    rw [hE]
    split_ifs
    · exact exp_sub_real _ _
    · rfl
  · refine (Ref.out_at Q K V bt lens b h d).trans ?_
    rw [← sum_entries fun j r => if liveN lens b j then Ideal.exp ((S (pgN bt b j) r : EReal) - (R : EReal)) * (V (ix4 (pgN bt b j) r h d) : EReal) else 0,
      sum_mul_real _ _ _ (inv_pos.mpr hzp).le]
    refine Finset.sum_congr (M := EReal) rfl fun k _ => ?_
    rw [hsoft, Ref.rows_at, ← mul_assoc]
    refine congrArg (fun t : EReal => t * ((z⁻¹ : ℝ) : EReal)) ?_
    rw [hE, mul_comm]
    split_ifs
    · rw [exp_sub_real]; rfl
    · exact zero_mul _
end

end Cert.Paged

end
-- ==== Proof.Join.lean ====
/-
  THE KERNEL'S ENTRY IS THE REFERENCE'S: a device's sums and its mate's, over the pages each holds, add up to the
  reference's sums over the table entries, and the quotient does not depend on the point the exponentials are taken from.
-/
module

public import proofs.«01_k».proof.Proof.KerValue
public import proofs.«01_k».proof.Proof.RefValue
public import proofs.«01_k».proof.Proof.Data

@[expose] public section

noncomputable section

namespace Cert.Paged

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- The half of the pages that device `c` holds. -/
def xF (c : Dev nD) : Fin 2 := ⟨c.val / 8, by have h : c.val < 16 := c.isLt; omega⟩

theorem xF_mate (c : Dev nD) : xF (mate c) ≠ xF c := by revert c; decide

section
variable (Q : Ref.TQuery) (K V : Ref.TPages) (bt : Ref.TTable) (lens : Ref.TLens) (b h : Fin 8) (d : Fin 128)

/-- How many entries of request `b`'s table that count name page `G`. -/
def cnt (G : Fin 1024) : EReal := named (fun j => bt (ix2 b j)) (liveN lens b) G

variable (S : Fin 1024 → Fin 16 → ℝ)

section Dev
variable (c : Dev nD) (XK XV : ConPg Ideal)

/-- Device `c`'s scores are those of its half of the pages. -/
theorem score_dev (hS : ∀ G r, scoreW Q K b h G r = S G r) (hK : ∀ g r y, pv XK g r h y = K (ix4 (half (xF c) g) r h y)) (g : Fin 512) (r : Fin 16) :
    score Q XK h b g r = S (half (xF c) g) r := by
  rw [← hS]
  unfold score scoreW
  simp only [hK]

theorem wAt_cnt (p : Fin 8) (x : Fin 1024) : wv (wAt c bt lens) p b ⟨x.val / 16, by omega⟩ = cnt bt lens b (half (xF c) (pgOf p x)) :=
  wAt_at c bt lens p b ⟨x.val / 16, by omega⟩

/-- Device `c`'s sum of weights, over its pages. -/
theorem sumL_dev (M : ℝ) : ∑ p : Fin 8, chunkL b (fun g r => S (half (xF c) g) r) (wAt c bt lens) p M
    = ∑ g : Fin 512, ∑ r : Fin 16, cnt bt lens b (half (xF c) g) * Ideal.exp ((S (half (xF c) g) r : EReal) - (M : EReal)) := by
  rw [← sum_chunks fun g r => cnt bt lens b (half (xF c) g) * Ideal.exp ((S (half (xF c) g) r : EReal) - (M : EReal))]
  refine Finset.sum_congr (M := EReal) rfl fun p _ => ?_
  unfold chunkL
  refine Finset.sum_congr (M := EReal) rfl fun x _ => ?_
  rw [wAt_cnt, mul_comm]
  rfl

/-- Device `c`'s weighted sum of its pages' values. -/
theorem sumA_dev (hV : ∀ g r, pv XV g r h d = V (ix4 (half (xF c) g) r h d)) (M : ℝ) :
    ∑ p : Fin 8, chunkA XV h b d (fun g r => S (half (xF c) g) r) (wAt c bt lens) p M
    = ∑ g : Fin 512, ∑ r : Fin 16, cnt bt lens b (half (xF c) g)
      * (Ideal.exp ((S (half (xF c) g) r : EReal) - (M : EReal)) * (V (ix4 (half (xF c) g) r h d) : EReal)) := by
  rw [← sum_chunks fun g r => cnt bt lens b (half (xF c) g)
      * (Ideal.exp ((S (half (xF c) g) r : EReal) - (M : EReal)) * (V (ix4 (half (xF c) g) r h d) : EReal))]
  refine Finset.sum_congr (M := EReal) rfl fun p _ => ?_
  unfold chunkA
  refine Finset.sum_congr (M := EReal) rfl fun x _ => ?_
  rw [wAt_cnt, hV, mul_comm (Ideal.exp _), mul_assoc]
  rfl
end Dev

variable (m : (ℓ : Loc nD τ sig) → Buf (Elt Ideal) ℓ)
  (hQ : ∀ c, inQ m c = Q) (hB : ∀ c, inB m c = bt) (hL : ∀ c, inL m c = lens)
  (hK : ∀ c g r h y, pv (inK m c) g r h y = K (ix4 (half (xF c) g) r h y)) (hV : ∀ c g r h y, pv (inV m c) g r h y = V (ix4 (half (xF c) g) r h y))
  (hS : ∀ G r, scoreW Q K b h G r = S G r) (hl : 1 ≤ (lens (ix1 b)).toInt)
  (hr : ∀ j, liveN lens b j → 0 ≤ (bt (ix2 b j)).toInt ∧ (bt (ix2 b j)).toInt < 1024)

include hQ hB hL hK hV hS hl hr

/-- Every device's entry is the reference's. -/
theorem entry_eq (c : Dev nD) : (outEnd m c (ix4 b 0 h d) : EReal) = (Ref.out Q K V bt lens (ix4 b 0 h d) : EReal) := by
  have hpg : ∀ j, liveN lens b j → bt (ix2 b j) = BitVec.ofNat 32 (pgN bt b j).val := fun j hj => pgN_eq bt b j (hr j hj).1 (hr j hj).2
  have H : ∀ c, HoldsAt b d (fun M => ∑ p : Fin 8, chunkL b (fun g r => S (half (xF c) g) r) (wAt c bt lens) p M)
      (fun M => ∑ p : Fin 8, chunkA (inV m c) h b d (fun g r => S (half (xF c) g) r) (wAt c bt lens) p M) (stEnd m c h) := fun c => by
    unfold stEnd
    rw [hQ, hB, hL]
    exact loop_holds Q (inK m c) (inV m c) h b d (wAt c bt lens) _ (score_dev Q K b h S c (inK m c) hS fun g r y => hK c g r h y)
  have sL : ∀ c, Shifts fun M => ∑ p : Fin 8, chunkL b (fun g r => S (half (xF c) g) r) (wAt c bt lens) p M := fun c =>
    Shifts.sum _ fun p => chunkL_shifts b _ _ p
  have sA : ∀ c, Shifts fun M => ∑ p : Fin 8, chunkA (inV m c) h b d (fun g r => S (half (xF c) g) r) (wAt c bt lens) p M := fun c =>
    Shifts.sum _ fun p => chunkA_shifts (inV m c) h b d _ _ p
  obtain ⟨M, hM⟩ := outAll_holds (stEnd m c) (stEnd m (mate c)) b h d (sL c) (sA c) (sL (mate c)) (sA (mate c)) (H c) (H (mate c))
  obtain ⟨R, z, hz, hLz, hA⟩ := ref_value Q K V bt lens b h d S hS hl
  refine (show (outEnd m c (ix4 b 0 h d) : EReal) = _ from hM).trans (Eq.trans (div_shift ((sL c).add (sL (mate c))) ((sA c).add (sA (mate c))) M R hz ?_) ?_)
  · beta_reduce
    rw [sumL_dev, sumL_dev, sum_halves (xF c) (xF (mate c)) (xF_mate c) fun G => ∑ r : Fin 16, cnt bt lens b G * Ideal.exp ((S G r : EReal) - (R : EReal))]
    exact (sum_named (fun j => bt (ix2 b j)) (liveN lens b) (pgN bt b) hpg fun G r => Ideal.exp ((S G r : EReal) - (R : EReal))).trans hLz
  · rw [hA]
    refine congrArg (fun t : EReal => t * ((z⁻¹ : ℝ) : EReal)) ?_
    beta_reduce
    rw [sumA_dev V bt lens b h d S c (inV m c) (fun g r => hV c g r h d), sumA_dev V bt lens b h d S (mate c) (inV m (mate c)) (fun g r => hV (mate c) g r h d),
      sum_halves (xF c) (xF (mate c)) (xF_mate c) fun G => ∑ r : Fin 16, cnt bt lens b G
        * (Ideal.exp ((S G r : EReal) - (R : EReal)) * (V (ix4 G r h d) : EReal))]
    exact sum_named (fun j => bt (ix2 b j)) (liveN lens b) (pgN bt b) hpg fun G r => Ideal.exp ((S G r : EReal) - (R : EReal)) * (V (ix4 G r h d) : EReal)
end

end Cert.Paged

end
-- ==== Proof.PreRead.lean ====
/-
  THE PRECONDITION, ENTRY BY ENTRY: the queries and the pages of keys hold reals, every request attends a page,
  and every table entry that counts names a page.
-/
module

public import proofs.«01_k».proof.Defs
public import proofs.«01_k».proof.Proof.Gen.Pre_attended_KernelIdeal
public import Idealize.ShloMosaic.Lib.Pointwise

@[expose] public section

noncomputable section

namespace Cert.Paged

open Idealize.ShloMosaic Cert.Pre_attended_KernelIdeal

section Fn
variable (Q : FVec Ideal S8x1x8x128 .f32) (K V : FVec Ideal S512x16x8x128 .f32) (bt : IVec S8x512 32) (lens : IVec S8 32)

local instance : Cert.Pre_attended_KernelIdeal.Facts := Cert.Pre_attended_KernelIdeal.Gen.facts

/-- A number below infinity in size is a real. -/
theorem real_of_small (x : Ideal .f32) (h : BitVec.ofBool (decide ((FloatOps.absf x : EReal) < Ideal.ofBits .f32 0x7F800000#32)) = 1#1) : ∃ r : ℝ, (x : EReal) = r := by
  have ht : Ideal.ofBits .f32 0x7F800000#32 = ⊤ := by simp [Ideal.ofBits, Ideal.ieee]
  rw [ht] at h
  have h' : (FloatOps.absf x : EReal) < ⊤ := by
    by_contra hn
    rw [decide_eq_false hn] at h
    exact absurd h (by decide)
  have e : (FloatOps.absf x : EReal) = max (x : EReal) (-(x : EReal)) := rfl
  rw [e, max_lt_iff] at h'
  induction x using EReal.rec with
  | bot => exact absurd h'.2 (by simp)
  | coe r => exact ⟨r, rfl⟩
  | top => exact absurd h'.1 (by simp)

theorem slt_iff (a b : BitVec 32) : IntOp.cmpi .slt a b = 1#1 ↔ a.toInt < b.toInt := by
  show BitVec.ofBool (a.slt b) = 1#1 ↔ _
  rw [← BitVec.slt_iff_toInt_lt]
  cases a.slt b <;> simp
theorem sge_iff (a b : BitVec 32) : IntOp.cmpi .sge a b = 1#1 ↔ b.toInt ≤ a.toInt := by
  show BitVec.ofBool (b.sle a) = 1#1 ↔ _
  rw [← BitVec.sle_iff_toInt_le]
  cases b.sle a <;> simp

theorem q_real (h : (fn (F := Ideal) Q K V bt lens).1 = fun _ => 1#1) (b h' : Fin 8) (y : Fin 128) : ∃ r : ℝ, (Q (ix4 b 0 h' y) : EReal) = r := by
  have e := congrFun h (ix4 b 0 h' y)
  pointwise [fn] at e
  exact real_of_small _ e
theorem k_real (h : (fn (F := Ideal) Q K V bt lens).2.1 = fun _ => 1#1) (g : Fin 512) (r : Fin 16) (h' : Fin 8) (y : Fin 128) : ∃ t : ℝ, (K (ix4 g r h' y) : EReal) = t := by
  have e := congrFun h (ix4 g r h' y)
  pointwise [fn] at e
  exact real_of_small _ e
theorem lens_pos (h : (fn (F := Ideal) Q K V bt lens).2.2.1 = fun _ => 1#1) (b : Fin 8) : 1 ≤ (lens (ix1 b)).toInt := by
  have e := congrFun h (ix1 b)
  pointwise [fn] at e
  exact (sge_iff _ _).mp e
theorem bt_range (h : (fn (F := Ideal) Q K V bt lens).2.2.2 = fun _ => 1#1) (b : Fin 8) (j : Fin 512)
    (hl : IntOp.cmpi .slt (BitVec.ofNat 32 j.val) (lens (ix1 b)) = 1#1) : 0 ≤ (bt (ix2 b j)).toInt ∧ (bt (ix2 b j)).toInt < 1024 := by
  have e := congrFun h (ix2 b j)
  pointwise [fn] at e
  have h0 : IntOp.cmpi .sge (BitVec.ofNat 32 j.val) (lens (ix1 b)) = 0#1 := by
    rcases BitVec.eq_zero_or_eq_one (IntOp.cmpi .sge (BitVec.ofNat 32 j.val) (lens (ix1 b))) with h0 | h1
    · exact h0
    · have := (sge_iff _ _).mp h1
      have := (slt_iff _ _).mp hl
      omega
  rw [h0] at e
  rcases BitVec.eq_zero_or_eq_one (IntOp.cmpi .sge (bt (ix2 b j)) 0#32) with h1 | h1 <;>
    rcases BitVec.eq_zero_or_eq_one (IntOp.cmpi .slt (bt (ix2 b j)) 1024#32) with h2 | h2 <;> rw [h1, h2] at e
  · exact absurd e (by decide)
  · exact absurd e (by decide)
  · exact absurd e (by decide)
  · exact ⟨(sge_iff _ _).mp h1, (slt_iff _ _).mp h2⟩
end Fn

end Cert.Paged

end
-- ==== Proof.Algebraic.lean ====
/-
  THE CLAIM OVER EXACT VALUES: every device's result is the reference's.
-/
module

public import proofs.«01_k».proof.Proof.Join
public import proofs.«01_k».proof.Proof.Frames
public import proofs.«01_k».proof.Proof.PreRead

@[expose] public section

noncomputable section

namespace Cert.Paged

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section Whole
variable (m : (ℓ : Loc nD τ sig) → Buf (Elt F) ℓ) (ρ : Dev nD → PrngReg) (c : Dev nD)

theorem inQ_eq : inQ m c = m ((c : Thread nD τ).loc main_arg0) :=
  Memref.read_access_unit_zero (Elt F) main_arg0 (funext fun a => Nat.zero_mul _) _ _
theorem inB_eq : inB m c = m ((c : Thread nD τ).loc main_arg3) :=
  Memref.read_access_unit_zero (Elt F) main_arg3 (funext fun a => Nat.zero_mul _) _ _
theorem inL_eq : inL m c = m ((c : Thread nD τ).loc main_arg4) :=
  Memref.read_access_unit_zero (Elt F) main_arg4 (funext fun a => Nat.zero_mul _) _ _

/-- The result array after the run. -/
theorem finalA_out : finalA m ρ c 3 = outEnd m c := by
  unfold finalA
  rw [show cfg0.N = (t0_0 : Fin cfg0.N).val + 1 from rfl, (dats m ρ 0 c).arrAt_succ 3 t0_0]
  rw [show (cfg0.win 3).flush t0_0 = true from by decide, if_pos rfl]
  exact Memref.write_access_unit_zero_univ (Elt F) main_v1 (funext fun a => Nat.zero_mul _) _ _ _
end Whole

/-- Where row `r` of device `c`'s page `g` lies in the whole array. -/
theorem block_at (v : Ref.TPages) (c : Dev nD) (g : Fin 512) (r : Fin 16) (h : Fin 8) (y : Fin 128) :
    (Layout.blockN ⟨4, ![512, 16, 8, 128]⟩ ⟨4, ![1024, 16, 8, 128]⟩ (Layout.meshBlock [2, 2, 4] ![[0], [], [], []] c) v : (⟨4, ![512, 16, 8, 128]⟩ : Shape).Idx → Ideal .f32)
      (ix4 g r h y) = v (ix4 (half (xF c) g) r h y) := by
  rw [Layout.blockN_apply]
  refine congrArg v (funext fun a => Fin.ext ?_)
  have hc : ∀ c : Dev nD, Layout.meshLin [2, 2, 4] c.val [0] = c.val / 8 := by decide
  match a with
  | ⟨0, _⟩ =>
    refine (Layout.TilesN.idx_val _ _ _ _).trans ?_
    show Layout.meshLin [2, 2, 4] c.val [0] * 512 + g.val = 512 * (c.val / 8) + g.val
    rw [hc, mul_comm]
  | ⟨1, _⟩ => exact (Layout.TilesN.idx_val _ _ _ _).trans (by show 0 * 16 + r.val = r.val; omega)
  | ⟨2, _⟩ => exact (Layout.TilesN.idx_val _ _ _ _).trans (by show 0 * 8 + h.val = h.val; omega)
  | ⟨3, _⟩ => exact (Layout.TilesN.idx_val _ _ _ _).trans (by show 0 * 128 + y.val = y.val; omega)

/-- Two results that agree at every request, head and lane are one. -/
theorem ext_out (X Y : Ref.TQuery) (e : ∀ (b h : Fin 8) (d : Fin 128), (X (ix4 b 0 h d) : EReal) = (Y (ix4 b 0 h d) : EReal)) : X = Y := by
  funext i
  have hi : i = ix4 (i 0) 0 (i 2) (i 3) := funext fun a => match a with
    | ⟨0, _⟩ => rfl
    | ⟨1, _⟩ => Subsingleton.elim (α := Fin 1) _ _
    | ⟨2, _⟩ => rfl
    | ⟨3, _⟩ => rfl
  rw [hi]
  exact e (i 0) (i 2) (i 3)

/-- Every row of every page is on some device. -/
theorem half_onto (G : Fin 1024) : ∃ (c : Dev nD) (g : Fin 512), G = half (xF c) g :=
  ⟨(⟨8 * (G.val / 512), by have := G.isLt; show _ < 16; omega⟩ : Fin 16), ⟨G.val % 512, by omega⟩, Fin.ext (by
    show G.val = 512 * (8 * (G.val / 512) / 8) + G.val % 512
    omega)⟩

/-- A score of reals is a real. -/
theorem scoreW_real (Q : Ref.TQuery) (K : Ref.TPages) (hQ : ∀ (b h : Fin 8) (y : Fin 128), ∃ r : ℝ, (Q (ix4 b 0 h y) : EReal) = r)
    (hK : ∀ (G : Fin 1024) (r : Fin 16) (h : Fin 8) (y : Fin 128), ∃ t : ℝ, (K (ix4 G r h y) : EReal) = t) (b h : Fin 8) (G : Fin 1024) (r : Fin 16) :
    ∃ s : ℝ, scoreW Q K b h G r = s := by
  choose q hq using hQ b h
  choose k hk using hK G r h
  obtain ⟨t, ht⟩ := ofBits_scale
  refine ⟨(∑ y, q y * k y) * t, ?_⟩
  unfold scoreW
  rw [ht, EReal.coe_mul, ← sum_real]
  refine congrArg (fun z : EReal => z * (t : EReal)) (Finset.sum_congr (M := EReal) rfl fun y _ => ?_)
  rw [hq, hk, EReal.coe_mul]

set_option maxRecDepth 8192 in
/-- The kernel's result is the reference's, on every device. -/
theorem algebraic : Cert.algebraic_KernelIdeal_ReferenceIdeal_pre_attended_KernelIdeal (hKernelIdeal := Cert.KernelIdeal.Gen.facts)
    (hReferenceIdeal := Cert.ReferenceIdeal.Gen.facts) (hPre_attended_KernelIdeal := Cert.Pre_attended_KernelIdeal.Gen.facts) := by
  intro m g m' g' hpre hargs
  let Q : Ref.TQuery := m' (((0 : Dev Cert.ReferenceIdeal.nD).tc : Thread Cert.ReferenceIdeal.nD Cert.ReferenceIdeal.τ).loc Cert.ReferenceIdeal.main_arg0)
  let K : Ref.TPages := m' (((0 : Dev Cert.ReferenceIdeal.nD).tc : Thread Cert.ReferenceIdeal.nD Cert.ReferenceIdeal.τ).loc Cert.ReferenceIdeal.main_arg1)
  let V : Ref.TPages := m' (((0 : Dev Cert.ReferenceIdeal.nD).tc : Thread Cert.ReferenceIdeal.nD Cert.ReferenceIdeal.τ).loc Cert.ReferenceIdeal.main_arg2)
  let bt : Ref.TTable := m' (((0 : Dev Cert.ReferenceIdeal.nD).tc : Thread Cert.ReferenceIdeal.nD Cert.ReferenceIdeal.τ).loc Cert.ReferenceIdeal.main_arg3)
  let lens : Ref.TLens := m' (((0 : Dev Cert.ReferenceIdeal.nD).tc : Thread Cert.ReferenceIdeal.nD Cert.ReferenceIdeal.τ).loc Cert.ReferenceIdeal.main_arg4)
  have aQ : ∀ c : Dev nD, m ((c.tc : Thread nD τ).loc main_arg0) = Q := fun c => (hargs c).1
  have aB : ∀ c : Dev nD, m ((c.tc : Thread nD τ).loc main_arg3) = bt := fun c => (hargs c).2.2.2.1
  have aL : ∀ c : Dev nD, m ((c.tc : Thread nD τ).loc main_arg4) = lens := fun c => (hargs c).2.2.2.2
  have aK : ∀ (c : Dev nD) g r h y, pv (inK m c) g r h y = K (ix4 (half (xF c) g) r h y) := fun c g r h y =>
    (congrFun (hargs c).2.1 (ix4 g r h y)).trans (block_at K c g r h y)
  have aV : ∀ (c : Dev nD) g r h y, pv (inV m c) g r h y = V (ix4 (half (xF c) g) r h y) := fun c g r h y =>
    (congrFun (hargs c).2.2.1 (ix4 g r h y)).trans (block_at V c g r h y)
  have rQ : ∀ (b h : Fin 8) (y : Fin 128), ∃ r : ℝ, (Q (ix4 b 0 h y) : EReal) = r := fun b h y => by
    obtain ⟨r, hr⟩ := q_real _ _ _ _ _ (hpre 0).1 b h y
    exact ⟨r, by rw [← aQ 0]; exact hr⟩
  have rK : ∀ (G : Fin 1024) (r : Fin 16) (h : Fin 8) (y : Fin 128), ∃ t : ℝ, (K (ix4 G r h y) : EReal) = t := fun G r h y => by
    obtain ⟨c, g, rfl⟩ := half_onto G
    obtain ⟨t, ht⟩ := k_real _ _ _ _ _ (hpre c).2.1 g r h y
    exact ⟨t, (aK c g r h y).symm.trans ht⟩
  have hl : ∀ b, 1 ≤ (lens (ix1 b)).toInt := fun b => by
    rw [← aL 0]
    exact lens_pos _ _ _ _ _ (hpre 0).2.2.1 b
  have hr : ∀ b j, liveN lens b j → 0 ≤ (bt (ix2 b j)).toInt ∧ (bt (ix2 b j)).toInt < 1024 := fun b j => by
    rw [← aL 0, ← aB 0]
    exact bt_range _ _ _ _ _ (hpre 0).2.2.2 b j
  have hout : ∀ c, outEnd m c = Ref.out Q K V bt lens := fun c => ext_out _ _ fun b h d => by
    choose S hS using scoreW_real Q K rQ rK b h
    exact entry_eq Q K V bt lens b h d S m (fun c => (inQ_eq m c).trans (aQ c)) (fun c => (inB_eq m c).trans (aB c)) (fun c => (inL_eq m c).trans (aL c))
      aK aV hS (hl b) (hr b) c
  refine ⟨Ref.out Q K V bt lens, ?_, ?_⟩
  · refine (θ_run Cert.KernelIdeal.defs _ _).mono (fun r hq c => ⟨?_, operands_kept m g hq.1 c⟩) (run_main (F := Ideal) m g)
    exact ((hq.1 c).1 3).trans ((finalA_out m g c).trans (hout c))
  · refine (θ_run Cert.ReferenceIdeal.defs _ _).mono (fun r hq => ⟨(hq 0).1.trans (Ref.res_eq m' 0), (hq 0).2⟩) (Cert.ReferenceIdeal.Value.run (F := Ideal) m' g')

end Cert.Paged

end
-- ==== Proof.lean ====
/-
  THE CERTIFICATE: the distributed paged attention kernel. The protocol between the two devices that hold the halves
  of the pages, the body's walk, the run and the values are the modules under Proof/; this one only puts the claims together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_attended_KernelIdeal
public import proofs.«01_k».proof.Proof.Gen.Pre_attended_ReferenceIdeal
public import proofs.«01_k».proof.Proof.Frames
public import proofs.«01_k».proof.Proof.Algebraic

@[expose] public section

noncomputable section

namespace Cert.Proof

/-- The frames of the kernel and of the reference, that no operation was replaced, and that the results agree. -/
theorem claim : Cert.Claim :=
  ⟨Cert.Kernel.Gen.facts, Cert.KernelIdeal.Gen.facts, Cert.ReferenceIdeal.Gen.facts, Cert.Pre_attended_KernelIdeal.Gen.facts,
    Cert.Pre_attended_ReferenceIdeal.Gen.facts,
    Cert.Paged.frame_kernel, Cert.Paged.frame_kernelIdeal, (fun m ρ _ => Cert.Paged.frame_kernelIdeal m ρ trivial),
    Cert.Paged.frame_reference, (fun m ρ _ => Cert.Paged.frame_reference m ρ trivial), trivial, Cert.Paged.algebraic⟩

end Cert.Proof

end
